-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_nonneg [hPre_ids_nonneg : Cert.Pre_ids_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_nonneg [hPre_ids_nonneg : Cert.Pre_ids_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_nonneg [hKernelIdeal : Cert.KernelIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_nonneg [hReferenceIdeal : Cert.ReferenceIdeal.Facts] [hPre_ids_nonneg : Cert.Pre_ids_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_nonneg [hKernelIdeal : Cert.KernelIdeal.Facts] [hReferenceIdeal : Cert.ReferenceIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_nonneg : Cert.Pre_ids_nonneg.Facts),
    quiescent_Kernel (hKernel := hKernel)
    ∧ quiescent_KernelIdeal (hKernelIdeal := hKernelIdeal)
    ∧ quiescent_KernelIdeal_pre_ids_nonneg (hKernelIdeal := hKernelIdeal) (hPre_ids_nonneg := hPre_ids_nonneg)
    ∧ quiescent_ReferenceIdeal (hReferenceIdeal := hReferenceIdeal)
    ∧ quiescent_ReferenceIdeal_pre_ids_nonneg (hReferenceIdeal := hReferenceIdeal) (hPre_ids_nonneg := hPre_ids_nonneg)
    ∧ preserves_Kernel_KernelIdeal
    ∧ algebraic_KernelIdeal_ReferenceIdeal_pre_ids_nonneg (hKernelIdeal := hKernelIdeal) (hReferenceIdeal := hReferenceIdeal) (hPre_ids_nonneg := hPre_ids_nonneg)
-- ==== Pre_ids_nonneg.lean ====
abbrev S64x2048 : Shape := ⟨2, ![64, 2048]⟩
abbrev S64x100000 : Shape := ⟨2, ![64, 100000]⟩
abbrev S64x512 : Shape := ⟨2, ![64, 512]⟩
abbrev S256 : Shape := ⟨1, ![256]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : IVec S64x2048 32) (main_arg1 : FVec F S64x100000 .f32) (main_arg2 : IVec S64x512 32) (main_arg3 : IVec S256 32) : IVec S_ 1 :=
  let main_c : IVec S_ 32 := constantI S_ 32 0#32
  let main_v0 : IVec S64x512 32 := broadcastInDim S64x512 ![] bcast_S_S64x512 main_c
  let main_v1 : IVec S64x512 1 := cmpi .sge main_arg2 main_v0
  let main_c_0 : IVec S_ 1 := constantI S_ 1 1#1
  let main_v2 : IVec S_ 1 := (fun x v => Host.reduce IntOp.andi x v reducesTo_S64x512_S_d0_1 h_S_) main_v1 main_c_0
  let main_c_1 : IVec S_ 32 := constantI S_ 32 0#32
  let main_v3 : IVec S256 32 := broadcastInDim S256 ![] bcast_S_S256 main_c_1
  let main_v4 : IVec S256 1 := cmpi .sge main_arg3 main_v3
  let main_c_2 : IVec S_ 1 := constantI S_ 1 1#1
  let main_v5 : IVec S_ 1 := (fun x v => Host.reduce IntOp.andi x v reducesTo_S256_S_d0 h_S_) main_v4 main_c_2
  let main_v6 : IVec S_ 1 := andi main_v2 main_v5
  main_v6
-- ==== Kernel.lean ====
abbrev S64x2048 : Shape := ⟨2, ![64, 2048]⟩
abbrev S64x100000 : Shape := ⟨2, ![64, 100000]⟩
abbrev S64x512 : Shape := ⟨2, ![64, 512]⟩
abbrev S256 : Shape := ⟨1, ![256]⟩
abbrev S50048 : Shape := ⟨1, ![50048]⟩
abbrev S49952 : Shape := ⟨1, ![49952]⟩
abbrev S2x512 : Shape := ⟨2, ![2, 512]⟩
abbrev S512 : Shape := ⟨1, ![512]⟩
abbrev S_ : Shape := ⟨0, ![]⟩
abbrev S1x100000 : Shape := ⟨2, ![1, 100000]⟩
abbrev S100000 : Shape := ⟨1, ![100000]⟩
abbrev S1x512 : Shape := ⟨2, ![1, 512]⟩
abbrev S16 : Shape := ⟨1, ![16]⟩
abbrev S1x16 : Shape := ⟨2, ![1, 16]⟩

abbrev nBuf : Table → Nat
  | .hbm => 5
  | .local .scVector .vmem => 6
  | _ => 0

abbrev bufTy : (tb : Table) → Fin (nBuf tb) → BufTy
  | .hbm, ⟨0, _⟩ => ⟨S64x2048, .i32⟩
  | .hbm, ⟨1, _⟩ => ⟨S64x100000, .f32⟩
  | .hbm, ⟨2, _⟩ => ⟨S64x512, .i32⟩
  | .hbm, ⟨3, _⟩ => ⟨S256, .i32⟩
  | .hbm, ⟨4, _⟩ => ⟨S64x100000, .f32⟩
  | .local .scVector .vmem, ⟨0, _⟩ => ⟨S50048, .f32⟩
  | .local .scVector .vmem, ⟨1, _⟩ => ⟨S49952, .f32⟩
  | .local .scVector .vmem, ⟨2, _⟩ => ⟨S2x512, .i32⟩
  | .local .scVector .vmem, ⟨3, _⟩ => ⟨S512, .f32⟩
  | .local .scVector .vmem, ⟨4, _⟩ => ⟨S256, .i32⟩
  | .local .scVector .vmem, ⟨5, _⟩ => ⟨S256, .f32⟩
  | _, _ => ⟨S64x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c0_i32_1 : BitVec 32 := 0#32
  ![v3.toNat, 0]
def k0_off2 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v10 : BitVec 32 := Scalar.muli v1 c2_i32_4
  let v11 : BitVec 32 := Scalar.addi v10 c0_i32_5
  let c0_i32_8 : BitVec 32 := 0#32
  ![v11.toNat, 0]

def k0_chk1 (v43 : IVec S16 32) : Prop :=
  (∀ a x, ((![v43] : Fin 1 → IVec S16 32) a x).toNat < S50048.size a)
theorem k0_idx1_inb : ∀ (v43 : IVec S16 32) (k0_hw1 : k0_chk1 v43), ∀ a x, ((![v43] : Fin 1 → IVec S16 32) a x).toNat < S50048.size a := fun v43 k0_hw1 => k0_hw1

def k0_chk2 (v56 : IVec S16 32) : Prop :=
  (∀ a x, ((![v56] : Fin 1 → IVec S16 32) a x).toNat < S50048.size a)
theorem k0_idx2_inb : ∀ (v56 : IVec S16 32) (k0_hw2 : k0_chk2 v56), ∀ a x, ((![v56] : Fin 1 → IVec S16 32) a x).toNat < S50048.size a := fun v56 k0_hw2 => k0_hw2

def k0_chk3 (v69 : IVec S16 32) : Prop :=
  (∀ a x, ((![v69] : Fin 1 → IVec S16 32) a x).toNat < S50048.size a)
theorem k0_idx3_inb : ∀ (v69 : IVec S16 32) (k0_hw3 : k0_chk3 v69), ∀ a x, ((![v69] : Fin 1 → IVec S16 32) a x).toNat < S50048.size a := fun v69 k0_hw3 => k0_hw3

def k0_chk4 (v82 : IVec S16 32) : Prop :=
  (∀ a x, ((![v82] : Fin 1 → IVec S16 32) a x).toNat < S50048.size a)
theorem k0_idx4_inb : ∀ (v82 : IVec S16 32) (k0_hw4 : k0_chk4 v82), ∀ a x, ((![v82] : Fin 1 → IVec S16 32) a x).toNat < S50048.size a := fun v82 k0_hw4 => k0_hw4

def k0_chk5 (v95 : IVec S16 32) : Prop :=
  (∀ a x, ((![v95] : Fin 1 → IVec S16 32) a x).toNat < S50048.size a)
theorem k0_idx5_inb : ∀ (v95 : IVec S16 32) (k0_hw5 : k0_chk5 v95), ∀ a x, ((![v95] : Fin 1 → IVec S16 32) a x).toNat < S50048.size a := fun v95 k0_hw5 => k0_hw5

def k0_chk6 (v108 : IVec S16 32) : Prop :=
  (∀ a x, ((![v108] : Fin 1 → IVec S16 32) a x).toNat < S50048.size a)
theorem k0_idx6_inb : ∀ (v108 : IVec S16 32) (k0_hw6 : k0_chk6 v108), ∀ a x, ((![v108] : Fin 1 → IVec S16 32) a x).toNat < S50048.size a := fun v108 k0_hw6 => k0_hw6

def k0_chk7 (v121 : IVec S16 32) : Prop :=
  (∀ a x, ((![v121] : Fin 1 → IVec S16 32) a x).toNat < S50048.size a)
theorem k0_idx7_inb : ∀ (v121 : IVec S16 32) (k0_hw7 : k0_chk7 v121), ∀ a x, ((![v121] : Fin 1 → IVec S16 32) a x).toNat < S50048.size a := fun v121 k0_hw7 => k0_hw7

def k0_chk8 (v134 : IVec S16 32) : Prop :=
  (∀ a x, ((![v134] : Fin 1 → IVec S16 32) a x).toNat < S50048.size a)
theorem k0_idx8_inb : ∀ (v134 : IVec S16 32) (k0_hw8 : k0_chk8 v134), ∀ a x, ((![v134] : Fin 1 → IVec S16 32) a x).toNat < S50048.size a := fun v134 k0_hw8 => k0_hw8

def k0_chk9 (v147 : IVec S16 32) : Prop :=
  (∀ a x, ((![v147] : Fin 1 → IVec S16 32) a x).toNat < S50048.size a)
theorem k0_idx9_inb : ∀ (v147 : IVec S16 32) (k0_hw9 : k0_chk9 v147), ∀ a x, ((![v147] : Fin 1 → IVec S16 32) a x).toNat < S50048.size a := fun v147 k0_hw9 => k0_hw9

def k0_chk10 (v160 : IVec S16 32) : Prop :=
  (∀ a x, ((![v160] : Fin 1 → IVec S16 32) a x).toNat < S50048.size a)
theorem k0_idx10_inb : ∀ (v160 : IVec S16 32) (k0_hw10 : k0_chk10 v160), ∀ a x, ((![v160] : Fin 1 → IVec S16 32) a x).toNat < S50048.size a := fun v160 k0_hw10 => k0_hw10

def k0_chk11 (v173 : IVec S16 32) : Prop :=
  (∀ a x, ((![v173] : Fin 1 → IVec S16 32) a x).toNat < S50048.size a)
theorem k0_idx11_inb : ∀ (v173 : IVec S16 32) (k0_hw11 : k0_chk11 v173), ∀ a x, ((![v173] : Fin 1 → IVec S16 32) a x).toNat < S50048.size a := fun v173 k0_hw11 => k0_hw11

def k0_chk12 (v186 : IVec S16 32) : Prop :=
  (∀ a x, ((![v186] : Fin 1 → IVec S16 32) a x).toNat < S50048.size a)
theorem k0_idx12_inb : ∀ (v186 : IVec S16 32) (k0_hw12 : k0_chk12 v186), ∀ a x, ((![v186] : Fin 1 → IVec S16 32) a x).toNat < S50048.size a := fun v186 k0_hw12 => k0_hw12

def k0_chk13 (v199 : IVec S16 32) : Prop :=
  (∀ a x, ((![v199] : Fin 1 → IVec S16 32) a x).toNat < S50048.size a)
theorem k0_idx13_inb : ∀ (v199 : IVec S16 32) (k0_hw13 : k0_chk13 v199), ∀ a x, ((![v199] : Fin 1 → IVec S16 32) a x).toNat < S50048.size a := fun v199 k0_hw13 => k0_hw13

def k0_chk14 (v212 : IVec S16 32) : Prop :=
  (∀ a x, ((![v212] : Fin 1 → IVec S16 32) a x).toNat < S50048.size a)
theorem k0_idx14_inb : ∀ (v212 : IVec S16 32) (k0_hw14 : k0_chk14 v212), ∀ a x, ((![v212] : Fin 1 → IVec S16 32) a x).toNat < S50048.size a := fun v212 k0_hw14 => k0_hw14

def k0_chk15 (v225 : IVec S16 32) : Prop :=
  (∀ a x, ((![v225] : Fin 1 → IVec S16 32) a x).toNat < S50048.size a)
theorem k0_idx15_inb : ∀ (v225 : IVec S16 32) (k0_hw15 : k0_chk15 v225), ∀ a x, ((![v225] : Fin 1 → IVec S16 32) a x).toNat < S50048.size a := fun v225 k0_hw15 => k0_hw15

def k0_chk16 (v238 : IVec S16 32) : Prop :=
  (∀ a x, ((![v238] : Fin 1 → IVec S16 32) a x).toNat < S50048.size a)
theorem k0_idx16_inb : ∀ (v238 : IVec S16 32) (k0_hw16 : k0_chk16 v238), ∀ a x, ((![v238] : Fin 1 → IVec S16 32) a x).toNat < S50048.size a := fun v238 k0_hw16 => k0_hw16

def k0_chk17 (v251 : IVec S16 32) : Prop :=
  (∀ a x, ((![v251] : Fin 1 → IVec S16 32) a x).toNat < S50048.size a)
theorem k0_idx17_inb : ∀ (v251 : IVec S16 32) (k0_hw17 : k0_chk17 v251), ∀ a x, ((![v251] : Fin 1 → IVec S16 32) a x).toNat < S50048.size a := fun v251 k0_hw17 => k0_hw17

def k0_chk18 (v271 : IVec S16 32) : Prop :=
  (∀ a x, ((![v271] : Fin 1 → IVec S16 32) a x).toNat < S50048.size a)
theorem k0_idx18_inb : ∀ (v271 : IVec S16 32) (k0_hw18 : k0_chk18 v271), ∀ a x, ((![v271] : Fin 1 → IVec S16 32) a x).toNat < S50048.size a := fun v271 k0_hw18 => k0_hw18

def k0_chk19 (v291 : IVec S16 32) : Prop :=
  (∀ a x, ((![v291] : Fin 1 → IVec S16 32) a x).toNat < S50048.size a)
theorem k0_idx19_inb : ∀ (v291 : IVec S16 32) (k0_hw19 : k0_chk19 v291), ∀ a x, ((![v291] : Fin 1 → IVec S16 32) a x).toNat < S50048.size a := fun v291 k0_hw19 => k0_hw19

def k0_chk20 (v311 : IVec S16 32) : Prop :=
  (∀ a x, ((![v311] : Fin 1 → IVec S16 32) a x).toNat < S50048.size a)
theorem k0_idx20_inb : ∀ (v311 : IVec S16 32) (k0_hw20 : k0_chk20 v311), ∀ a x, ((![v311] : Fin 1 → IVec S16 32) a x).toNat < S50048.size a := fun v311 k0_hw20 => k0_hw20

def k0_chk21 (v331 : IVec S16 32) : Prop :=
  (∀ a x, ((![v331] : Fin 1 → IVec S16 32) a x).toNat < S50048.size a)
theorem k0_idx21_inb : ∀ (v331 : IVec S16 32) (k0_hw21 : k0_chk21 v331), ∀ a x, ((![v331] : Fin 1 → IVec S16 32) a x).toNat < S50048.size a := fun v331 k0_hw21 => k0_hw21

def k0_chk22 (v351 : IVec S16 32) : Prop :=
  (∀ a x, ((![v351] : Fin 1 → IVec S16 32) a x).toNat < S50048.size a)
theorem k0_idx22_inb : ∀ (v351 : IVec S16 32) (k0_hw22 : k0_chk22 v351), ∀ a x, ((![v351] : Fin 1 → IVec S16 32) a x).toNat < S50048.size a := fun v351 k0_hw22 => k0_hw22

def k0_chk23 (v371 : IVec S16 32) : Prop :=
  (∀ a x, ((![v371] : Fin 1 → IVec S16 32) a x).toNat < S50048.size a)
theorem k0_idx23_inb : ∀ (v371 : IVec S16 32) (k0_hw23 : k0_chk23 v371), ∀ a x, ((![v371] : Fin 1 → IVec S16 32) a x).toNat < S50048.size a := fun v371 k0_hw23 => k0_hw23

def k0_chk24 (v391 : IVec S16 32) : Prop :=
  (∀ a x, ((![v391] : Fin 1 → IVec S16 32) a x).toNat < S50048.size a)
theorem k0_idx24_inb : ∀ (v391 : IVec S16 32) (k0_hw24 : k0_chk24 v391), ∀ a x, ((![v391] : Fin 1 → IVec S16 32) a x).toNat < S50048.size a := fun v391 k0_hw24 => k0_hw24

def k0_chk25 (v411 : IVec S16 32) : Prop :=
  (∀ a x, ((![v411] : Fin 1 → IVec S16 32) a x).toNat < S50048.size a)
theorem k0_idx25_inb : ∀ (v411 : IVec S16 32) (k0_hw25 : k0_chk25 v411), ∀ a x, ((![v411] : Fin 1 → IVec S16 32) a x).toNat < S50048.size a := fun v411 k0_hw25 => k0_hw25

def k0_chk26 (v431 : IVec S16 32) : Prop :=
  (∀ a x, ((![v431] : Fin 1 → IVec S16 32) a x).toNat < S50048.size a)
theorem k0_idx26_inb : ∀ (v431 : IVec S16 32) (k0_hw26 : k0_chk26 v431), ∀ a x, ((![v431] : Fin 1 → IVec S16 32) a x).toNat < S50048.size a := fun v431 k0_hw26 => k0_hw26

def k0_chk27 (v451 : IVec S16 32) : Prop :=
  (∀ a x, ((![v451] : Fin 1 → IVec S16 32) a x).toNat < S50048.size a)
theorem k0_idx27_inb : ∀ (v451 : IVec S16 32) (k0_hw27 : k0_chk27 v451), ∀ a x, ((![v451] : Fin 1 → IVec S16 32) a x).toNat < S50048.size a := fun v451 k0_hw27 => k0_hw27

def k0_chk28 (v471 : IVec S16 32) : Prop :=
  (∀ a x, ((![v471] : Fin 1 → IVec S16 32) a x).toNat < S50048.size a)
theorem k0_idx28_inb : ∀ (v471 : IVec S16 32) (k0_hw28 : k0_chk28 v471), ∀ a x, ((![v471] : Fin 1 → IVec S16 32) a x).toNat < S50048.size a := fun v471 k0_hw28 => k0_hw28

def k0_chk29 (v491 : IVec S16 32) : Prop :=
  (∀ a x, ((![v491] : Fin 1 → IVec S16 32) a x).toNat < S50048.size a)
theorem k0_idx29_inb : ∀ (v491 : IVec S16 32) (k0_hw29 : k0_chk29 v491), ∀ a x, ((![v491] : Fin 1 → IVec S16 32) a x).toNat < S50048.size a := fun v491 k0_hw29 => k0_hw29

def k0_chk30 (v511 : IVec S16 32) : Prop :=
  (∀ a x, ((![v511] : Fin 1 → IVec S16 32) a x).toNat < S50048.size a)
theorem k0_idx30_inb : ∀ (v511 : IVec S16 32) (k0_hw30 : k0_chk30 v511), ∀ a x, ((![v511] : Fin 1 → IVec S16 32) a x).toNat < S50048.size a := fun v511 k0_hw30 => k0_hw30

def k0_chk31 (v531 : IVec S16 32) : Prop :=
  (∀ a x, ((![v531] : Fin 1 → IVec S16 32) a x).toNat < S50048.size a)
theorem k0_idx31_inb : ∀ (v531 : IVec S16 32) (k0_hw31 : k0_chk31 v531), ∀ a x, ((![v531] : Fin 1 → IVec S16 32) a x).toNat < S50048.size a := fun v531 k0_hw31 => k0_hw31

def k0_chk32 (v551 : IVec S16 32) : Prop :=
  (∀ a x, ((![v551] : Fin 1 → IVec S16 32) a x).toNat < S50048.size a)
theorem k0_idx32_inb : ∀ (v551 : IVec S16 32) (k0_hw32 : k0_chk32 v551), ∀ a x, ((![v551] : Fin 1 → IVec S16 32) a x).toNat < S50048.size a := fun v551 k0_hw32 => k0_hw32

def k0_chk33 (v571 : IVec S16 32) : Prop :=
  (∀ a x, ((![v571] : Fin 1 → IVec S16 32) a x).toNat < S50048.size a)
theorem k0_idx33_inb : ∀ (v571 : IVec S16 32) (k0_hw33 : k0_chk33 v571), ∀ a x, ((![v571] : Fin 1 → IVec S16 32) a x).toNat < S50048.size a := fun v571 k0_hw33 => k0_hw33

def k0_chk34 (v584 : IVec S16 32) : Prop :=
  (∀ a x, ((![v584] : Fin 1 → IVec S16 32) a x).toNat < S50048.size a)
theorem k0_idx34_inb : ∀ (v584 : IVec S16 32) (k0_hw34 : k0_chk34 v584), ∀ a x, ((![v584] : Fin 1 → IVec S16 32) a x).toNat < S50048.size a := fun v584 k0_hw34 => k0_hw34

def k0_chk35 (v597 : IVec S16 32) : Prop :=
  (∀ a x, ((![v597] : Fin 1 → IVec S16 32) a x).toNat < S50048.size a)
theorem k0_idx35_inb : ∀ (v597 : IVec S16 32) (k0_hw35 : k0_chk35 v597), ∀ a x, ((![v597] : Fin 1 → IVec S16 32) a x).toNat < S50048.size a := fun v597 k0_hw35 => k0_hw35

def k0_chk36 (v610 : IVec S16 32) : Prop :=
  (∀ a x, ((![v610] : Fin 1 → IVec S16 32) a x).toNat < S50048.size a)
theorem k0_idx36_inb : ∀ (v610 : IVec S16 32) (k0_hw36 : k0_chk36 v610), ∀ a x, ((![v610] : Fin 1 → IVec S16 32) a x).toNat < S50048.size a := fun v610 k0_hw36 => k0_hw36

def k0_chk37 (v623 : IVec S16 32) : Prop :=
  (∀ a x, ((![v623] : Fin 1 → IVec S16 32) a x).toNat < S50048.size a)
theorem k0_idx37_inb : ∀ (v623 : IVec S16 32) (k0_hw37 : k0_chk37 v623), ∀ a x, ((![v623] : Fin 1 → IVec S16 32) a x).toNat < S50048.size a := fun v623 k0_hw37 => k0_hw37

def k0_chk38 (v636 : IVec S16 32) : Prop :=
  (∀ a x, ((![v636] : Fin 1 → IVec S16 32) a x).toNat < S50048.size a)
theorem k0_idx38_inb : ∀ (v636 : IVec S16 32) (k0_hw38 : k0_chk38 v636), ∀ a x, ((![v636] : Fin 1 → IVec S16 32) a x).toNat < S50048.size a := fun v636 k0_hw38 => k0_hw38

def k0_chk39 (v649 : IVec S16 32) : Prop :=
  (∀ a x, ((![v649] : Fin 1 → IVec S16 32) a x).toNat < S50048.size a)
theorem k0_idx39_inb : ∀ (v649 : IVec S16 32) (k0_hw39 : k0_chk39 v649), ∀ a x, ((![v649] : Fin 1 → IVec S16 32) a x).toNat < S50048.size a := fun v649 k0_hw39 => k0_hw39

def k0_chk40 (v662 : IVec S16 32) : Prop :=
  (∀ a x, ((![v662] : Fin 1 → IVec S16 32) a x).toNat < S50048.size a)
theorem k0_idx40_inb : ∀ (v662 : IVec S16 32) (k0_hw40 : k0_chk40 v662), ∀ a x, ((![v662] : Fin 1 → IVec S16 32) a x).toNat < S50048.size a := fun v662 k0_hw40 => k0_hw40

def k0_chk41 (v675 : IVec S16 32) : Prop :=
  (∀ a x, ((![v675] : Fin 1 → IVec S16 32) a x).toNat < S50048.size a)
theorem k0_idx41_inb : ∀ (v675 : IVec S16 32) (k0_hw41 : k0_chk41 v675), ∀ a x, ((![v675] : Fin 1 → IVec S16 32) a x).toNat < S50048.size a := fun v675 k0_hw41 => k0_hw41

def k0_chk42 (v688 : IVec S16 32) : Prop :=
  (∀ a x, ((![v688] : Fin 1 → IVec S16 32) a x).toNat < S50048.size a)
theorem k0_idx42_inb : ∀ (v688 : IVec S16 32) (k0_hw42 : k0_chk42 v688), ∀ a x, ((![v688] : Fin 1 → IVec S16 32) a x).toNat < S50048.size a := fun v688 k0_hw42 => k0_hw42

def k0_chk43 (v701 : IVec S16 32) : Prop :=
  (∀ a x, ((![v701] : Fin 1 → IVec S16 32) a x).toNat < S50048.size a)
theorem k0_idx43_inb : ∀ (v701 : IVec S16 32) (k0_hw43 : k0_chk43 v701), ∀ a x, ((![v701] : Fin 1 → IVec S16 32) a x).toNat < S50048.size a := fun v701 k0_hw43 => k0_hw43

def k0_chk44 (v714 : IVec S16 32) : Prop :=
  (∀ a x, ((![v714] : Fin 1 → IVec S16 32) a x).toNat < S50048.size a)
theorem k0_idx44_inb : ∀ (v714 : IVec S16 32) (k0_hw44 : k0_chk44 v714), ∀ a x, ((![v714] : Fin 1 → IVec S16 32) a x).toNat < S50048.size a := fun v714 k0_hw44 => k0_hw44

def k0_chk45 (v727 : IVec S16 32) : Prop :=
  (∀ a x, ((![v727] : Fin 1 → IVec S16 32) a x).toNat < S50048.size a)
theorem k0_idx45_inb : ∀ (v727 : IVec S16 32) (k0_hw45 : k0_chk45 v727), ∀ a x, ((![v727] : Fin 1 → IVec S16 32) a x).toNat < S50048.size a := fun v727 k0_hw45 => k0_hw45

def k0_chk46 (v740 : IVec S16 32) : Prop :=
  (∀ a x, ((![v740] : Fin 1 → IVec S16 32) a x).toNat < S50048.size a)
theorem k0_idx46_inb : ∀ (v740 : IVec S16 32) (k0_hw46 : k0_chk46 v740), ∀ a x, ((![v740] : Fin 1 → IVec S16 32) a x).toNat < S50048.size a := fun v740 k0_hw46 => k0_hw46

def k0_chk47 (v753 : IVec S16 32) : Prop :=
  (∀ a x, ((![v753] : Fin 1 → IVec S16 32) a x).toNat < S50048.size a)
theorem k0_idx47_inb : ∀ (v753 : IVec S16 32) (k0_hw47 : k0_chk47 v753), ∀ a x, ((![v753] : Fin 1 → IVec S16 32) a x).toNat < S50048.size a := fun v753 k0_hw47 => k0_hw47

def k0_chk48 (v766 : IVec S16 32) : Prop :=
  (∀ a x, ((![v766] : Fin 1 → IVec S16 32) a x).toNat < S50048.size a)
theorem k0_idx48_inb : ∀ (v766 : IVec S16 32) (k0_hw48 : k0_chk48 v766), ∀ a x, ((![v766] : Fin 1 → IVec S16 32) a x).toNat < S50048.size a := fun v766 k0_hw48 => k0_hw48

def k0_chk49 (v779 : IVec S16 32) : Prop :=
  (∀ a x, ((![v779] : Fin 1 → IVec S16 32) a x).toNat < S50048.size a)
theorem k0_idx49_inb : ∀ (v779 : IVec S16 32) (k0_hw49 : k0_chk49 v779), ∀ a x, ((![v779] : Fin 1 → IVec S16 32) a x).toNat < S50048.size a := fun v779 k0_hw49 => k0_hw49

def k0_chk50 (v801 : IVec S16 32) : Prop :=
  (∀ a x, ((![v801] : Fin 1 → IVec S16 32) a x).toNat < S50048.size a)
theorem k0_idx50_inb : ∀ (v801 : IVec S16 32) (k0_hw50 : k0_chk50 v801), ∀ a x, ((![v801] : Fin 1 → IVec S16 32) a x).toNat < S50048.size a := fun v801 k0_hw50 => k0_hw50

def k0_chk51 (v823 : IVec S16 32) : Prop :=
  (∀ a x, ((![v823] : Fin 1 → IVec S16 32) a x).toNat < S50048.size a)
theorem k0_idx51_inb : ∀ (v823 : IVec S16 32) (k0_hw51 : k0_chk51 v823), ∀ a x, ((![v823] : Fin 1 → IVec S16 32) a x).toNat < S50048.size a := fun v823 k0_hw51 => k0_hw51

def k0_chk52 (v845 : IVec S16 32) : Prop :=
  (∀ a x, ((![v845] : Fin 1 → IVec S16 32) a x).toNat < S50048.size a)
theorem k0_idx52_inb : ∀ (v845 : IVec S16 32) (k0_hw52 : k0_chk52 v845), ∀ a x, ((![v845] : Fin 1 → IVec S16 32) a x).toNat < S50048.size a := fun v845 k0_hw52 => k0_hw52

def k0_chk53 (v867 : IVec S16 32) : Prop :=
  (∀ a x, ((![v867] : Fin 1 → IVec S16 32) a x).toNat < S50048.size a)
theorem k0_idx53_inb : ∀ (v867 : IVec S16 32) (k0_hw53 : k0_chk53 v867), ∀ a x, ((![v867] : Fin 1 → IVec S16 32) a x).toNat < S50048.size a := fun v867 k0_hw53 => k0_hw53

def k0_chk54 (v889 : IVec S16 32) : Prop :=
  (∀ a x, ((![v889] : Fin 1 → IVec S16 32) a x).toNat < S50048.size a)
theorem k0_idx54_inb : ∀ (v889 : IVec S16 32) (k0_hw54 : k0_chk54 v889), ∀ a x, ((![v889] : Fin 1 → IVec S16 32) a x).toNat < S50048.size a := fun v889 k0_hw54 => k0_hw54

def k0_chk55 (v911 : IVec S16 32) : Prop :=
  (∀ a x, ((![v911] : Fin 1 → IVec S16 32) a x).toNat < S50048.size a)
theorem k0_idx55_inb : ∀ (v911 : IVec S16 32) (k0_hw55 : k0_chk55 v911), ∀ a x, ((![v911] : Fin 1 → IVec S16 32) a x).toNat < S50048.size a := fun v911 k0_hw55 => k0_hw55

def k0_chk56 (v933 : IVec S16 32) : Prop :=
  (∀ a x, ((![v933] : Fin 1 → IVec S16 32) a x).toNat < S50048.size a)
theorem k0_idx56_inb : ∀ (v933 : IVec S16 32) (k0_hw56 : k0_chk56 v933), ∀ a x, ((![v933] : Fin 1 → IVec S16 32) a x).toNat < S50048.size a := fun v933 k0_hw56 => k0_hw56

def k0_chk57 (v955 : IVec S16 32) : Prop :=
  (∀ a x, ((![v955] : Fin 1 → IVec S16 32) a x).toNat < S50048.size a)
theorem k0_idx57_inb : ∀ (v955 : IVec S16 32) (k0_hw57 : k0_chk57 v955), ∀ a x, ((![v955] : Fin 1 → IVec S16 32) a x).toNat < S50048.size a := fun v955 k0_hw57 => k0_hw57

def k0_chk58 (v977 : IVec S16 32) : Prop :=
  (∀ a x, ((![v977] : Fin 1 → IVec S16 32) a x).toNat < S50048.size a)
theorem k0_idx58_inb : ∀ (v977 : IVec S16 32) (k0_hw58 : k0_chk58 v977), ∀ a x, ((![v977] : Fin 1 → IVec S16 32) a x).toNat < S50048.size a := fun v977 k0_hw58 => k0_hw58

def k0_chk59 (v999 : IVec S16 32) : Prop :=
  (∀ a x, ((![v999] : Fin 1 → IVec S16 32) a x).toNat < S50048.size a)
theorem k0_idx59_inb : ∀ (v999 : IVec S16 32) (k0_hw59 : k0_chk59 v999), ∀ a x, ((![v999] : Fin 1 → IVec S16 32) a x).toNat < S50048.size a := fun v999 k0_hw59 => k0_hw59

def k0_chk60 (v1021 : IVec S16 32) : Prop :=
  (∀ a x, ((![v1021] : Fin 1 → IVec S16 32) a x).toNat < S50048.size a)
theorem k0_idx60_inb : ∀ (v1021 : IVec S16 32) (k0_hw60 : k0_chk60 v1021), ∀ a x, ((![v1021] : Fin 1 → IVec S16 32) a x).toNat < S50048.size a := fun v1021 k0_hw60 => k0_hw60

def k0_chk61 (v1043 : IVec S16 32) : Prop :=
  (∀ a x, ((![v1043] : Fin 1 → IVec S16 32) a x).toNat < S50048.size a)
theorem k0_idx61_inb : ∀ (v1043 : IVec S16 32) (k0_hw61 : k0_chk61 v1043), ∀ a x, ((![v1043] : Fin 1 → IVec S16 32) a x).toNat < S50048.size a := fun v1043 k0_hw61 => k0_hw61

def k0_chk62 (v1065 : IVec S16 32) : Prop :=
  (∀ a x, ((![v1065] : Fin 1 → IVec S16 32) a x).toNat < S50048.size a)
theorem k0_idx62_inb : ∀ (v1065 : IVec S16 32) (k0_hw62 : k0_chk62 v1065), ∀ a x, ((![v1065] : Fin 1 → IVec S16 32) a x).toNat < S50048.size a := fun v1065 k0_hw62 => k0_hw62

def k0_chk63 (v1087 : IVec S16 32) : Prop :=
  (∀ a x, ((![v1087] : Fin 1 → IVec S16 32) a x).toNat < S50048.size a)
theorem k0_idx63_inb : ∀ (v1087 : IVec S16 32) (k0_hw63 : k0_chk63 v1087), ∀ a x, ((![v1087] : Fin 1 → IVec S16 32) a x).toNat < S50048.size a := fun v1087 k0_hw63 => k0_hw63

def k0_chk64 (v1109 : IVec S16 32) : Prop :=
  (∀ a x, ((![v1109] : Fin 1 → IVec S16 32) a x).toNat < S50048.size a)
theorem k0_idx64_inb : ∀ (v1109 : IVec S16 32) (k0_hw64 : k0_chk64 v1109), ∀ a x, ((![v1109] : Fin 1 → IVec S16 32) a x).toNat < S50048.size a := fun v1109 k0_hw64 => k0_hw64
def k0_off3 (i : grid0.Coords) (c0_i32_481 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_480 : BitVec 32 := 2#32
  let v1119 : BitVec 32 := Scalar.muli v1 c2_i32_480
  let v1120 : BitVec 32 := Scalar.addi v1119 c0_i32_481
  let c0_i32_482 : BitVec 32 := 0#32
  ![v1120.toNat, 0]
def k0_off4 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v10 : BitVec 32 := Scalar.muli v1 c2_i32_4
  let v11 : BitVec 32 := Scalar.addi v10 c0_i32_5
  let c0_i32_488 : BitVec 32 := 0#32
  ![v11.toNat, 0]
@[reducible] def k0_t1_loop : Scf.Loop 32 :=
  let c0_i32_504 : BitVec 32 := 0#32
  let c32_i32 : BitVec 32 := 32#32
  let v1152 : BitVec 32 := Scalar.addi c0_i32_504 c32_i32
  let c1_i32_505 : BitVec 32 := 1#32
  ⟨c0_i32_504, v1152, c1_i32_505⟩
def k0_off5 (k0_t1 : Fin k0_t1_loop.trips) : Fin 2 → Nat :=
  let c0_i32_642 : BitVec 32 := 0#32
  let v1273 : Index := Scalar.indexCast c0_i32_642
  let c0_i32_504 : BitVec 32 := 0#32
  let c1_i32_505 : BitVec 32 := 1#32
  let arg17 : BitVec 32 := Scf.iv c0_i32_504 c1_i32_505 k0_t1
  let c16_i32_641 : BitVec 32 := 16#32
  let v1272 : BitVec 32 := Scalar.muli arg17 c16_i32_641
  let v1274 : Index := Scalar.indexCast v1272
  ![0, v1274.toNat]

def k0_chk65 (v1284 : IVec S16 32) : Prop :=
  (∀ a x, ((![v1284] : Fin 1 → IVec S16 32) a x).toNat < S49952.size a)
theorem k0_idx65_inb : ∀ (v1284 : IVec S16 32) (k0_hw65 : k0_chk65 v1284), ∀ a x, ((![v1284] : Fin 1 → IVec S16 32) a x).toNat < S49952.size a := fun v1284 k0_hw65 => k0_hw65
def k0_off6 (k0_t1 : Fin k0_t1_loop.trips) : Fin 1 → Nat :=
  let c0_i32_504 : BitVec 32 := 0#32
  let c1_i32_505 : BitVec 32 := 1#32
  let arg17 : BitVec 32 := Scf.iv c0_i32_504 c1_i32_505 k0_t1
  let c16_i32_647 : BitVec 32 := 16#32
  let v1286 : BitVec 32 := Scalar.muli arg17 c16_i32_647
  let v1287 : Index := Scalar.indexCast v1286
  ![v1287.toNat]
@[reducible] def k0_t2_loop : Scf.Loop 32 :=
  let c0_i32_508 : BitVec 32 := 0#32
  let c3122_i32 : BitVec 32 := 3122#32
  let v1154 : BitVec 32 := Scalar.addi c0_i32_508 c3122_i32
  let c1_i32_509 : BitVec 32 := 1#32
  ⟨c0_i32_508, v1154, c1_i32_509⟩
def k0_off7 (k0_t2 : Fin k0_t2_loop.trips) : Fin 1 → Nat :=
  let c0_i32_508 : BitVec 32 := 0#32
  let c1_i32_509 : BitVec 32 := 1#32
  let arg17 : BitVec 32 := Scf.iv c0_i32_508 c1_i32_509 k0_t2
  let c16_i32_641 : BitVec 32 := 16#32
  let v1272 : BitVec 32 := Scalar.muli arg17 c16_i32_641
  let v1273 : Index := Scalar.indexCast v1272
  ![v1273.toNat]
@[reducible] def k0_t3_loop : Scf.Loop 32 :=
  let c0_i32_512 : BitVec 32 := 0#32
  let c32_i32_513 : BitVec 32 := 32#32
  let v1156 : BitVec 32 := Scalar.addi c0_i32_512 c32_i32_513
  let c1_i32_514 : BitVec 32 := 1#32
  ⟨c0_i32_512, v1156, c1_i32_514⟩
def k0_off8 (k0_t3 : Fin k0_t3_loop.trips) : Fin 2 → Nat :=
  let c0_i32_642 : BitVec 32 := 0#32
  let v1273 : Index := Scalar.indexCast c0_i32_642
  let c0_i32_512 : BitVec 32 := 0#32
  let c1_i32_514 : BitVec 32 := 1#32
  let arg17 : BitVec 32 := Scf.iv c0_i32_512 c1_i32_514 k0_t3
  let c16_i32_641 : BitVec 32 := 16#32
  let v1272 : BitVec 32 := Scalar.muli arg17 c16_i32_641
  let v1274 : Index := Scalar.indexCast v1272
  ![0, v1274.toNat]
def k0_off9 (k0_t3 : Fin k0_t3_loop.trips) : Fin 1 → Nat :=
  let c0_i32_512 : BitVec 32 := 0#32
  let c1_i32_514 : BitVec 32 := 1#32
  let arg17 : BitVec 32 := Scf.iv c0_i32_512 c1_i32_514 k0_t3
  let c16_i32_643 : BitVec 32 := 16#32
  let v1276 : BitVec 32 := Scalar.muli arg17 c16_i32_643
  let v1277 : Index := Scalar.indexCast v1276
  ![v1277.toNat]

def k0_chk66 (v1287 : IVec S16 32) : Prop :=
  (∀ a x, ((![v1287] : Fin 1 → IVec S16 32) a x).toNat < S49952.size a)
theorem k0_idx66_inb : ∀ (v1287 : IVec S16 32) (k0_hw66 : k0_chk66 v1287), ∀ a x, ((![v1287] : Fin 1 → IVec S16 32) a x).toNat < S49952.size a := fun v1287 k0_hw66 => k0_hw66
@[reducible] def k0_t4_loop : Scf.Loop 32 :=
  let c0_i32_517 : BitVec 32 := 0#32
  let c16_i32 : BitVec 32 := 16#32
  let v1158 : BitVec 32 := Scalar.addi c0_i32_517 c16_i32
  let c1_i32_518 : BitVec 32 := 1#32
  ⟨c0_i32_517, v1158, c1_i32_518⟩
def k0_off10 (k0_t4 : Fin k0_t4_loop.trips) : Fin 1 → Nat :=
  let c0_i32_517 : BitVec 32 := 0#32
  let c1_i32_518 : BitVec 32 := 1#32
  let arg17 : BitVec 32 := Scf.iv c0_i32_517 c1_i32_518 k0_t4
  let c16_i32_641 : BitVec 32 := 16#32
  let v1272 : BitVec 32 := Scalar.muli arg17 c16_i32_641
  let v1273 : Index := Scalar.indexCast v1272
  ![v1273.toNat]

def k0_chk67 (v1289 : IVec S16 32) : Prop :=
  (∀ a x, ((![v1289] : Fin 1 → IVec S16 32) a x).toNat < S49952.size a)
theorem k0_idx67_inb : ∀ (v1289 : IVec S16 32) (k0_hw67 : k0_chk67 v1289), ∀ a x, ((![v1289] : Fin 1 → IVec S16 32) a x).toNat < S49952.size a := fun v1289 k0_hw67 => k0_hw67
@[reducible] def k0_t5_loop : Scf.Loop 32 :=
  let c0_i32_541 : BitVec 32 := 0#32
  let c32_i32_542 : BitVec 32 := 32#32
  let v1188 : BitVec 32 := Scalar.addi c0_i32_541 c32_i32_542
  let c1_i32_543 : BitVec 32 := 1#32
  ⟨c0_i32_541, v1188, c1_i32_543⟩
def k0_off11 (k0_t5 : Fin k0_t5_loop.trips) : Fin 2 → Nat :=
  let c0_i32_642 : BitVec 32 := 0#32
  let v1273 : Index := Scalar.indexCast c0_i32_642
  let c0_i32_541 : BitVec 32 := 0#32
  let c1_i32_543 : BitVec 32 := 1#32
  let arg17 : BitVec 32 := Scf.iv c0_i32_541 c1_i32_543 k0_t5
  let c16_i32_641 : BitVec 32 := 16#32
  let v1272 : BitVec 32 := Scalar.muli arg17 c16_i32_641
  let v1274 : Index := Scalar.indexCast v1272
  ![0, v1274.toNat]

def k0_chk68 (v1284 : IVec S16 32) : Prop :=
  (∀ a x, ((![v1284] : Fin 1 → IVec S16 32) a x).toNat < S50048.size a)
theorem k0_idx68_inb : ∀ (v1284 : IVec S16 32) (k0_hw68 : k0_chk68 v1284), ∀ a x, ((![v1284] : Fin 1 → IVec S16 32) a x).toNat < S50048.size a := fun v1284 k0_hw68 => k0_hw68
def k0_off12 (k0_t5 : Fin k0_t5_loop.trips) : Fin 1 → Nat :=
  let c0_i32_541 : BitVec 32 := 0#32
  let c1_i32_543 : BitVec 32 := 1#32
  let arg17 : BitVec 32 := Scf.iv c0_i32_541 c1_i32_543 k0_t5
  let c16_i32_647 : BitVec 32 := 16#32
  let v1286 : BitVec 32 := Scalar.muli arg17 c16_i32_647
  let v1287 : Index := Scalar.indexCast v1286
  ![v1287.toNat]
@[reducible] def k0_t6_loop : Scf.Loop 32 :=
  let c0_i32_546 : BitVec 32 := 0#32
  let c3128_i32 : BitVec 32 := 3128#32
  let v1190 : BitVec 32 := Scalar.addi c0_i32_546 c3128_i32
  let c1_i32_547 : BitVec 32 := 1#32
  ⟨c0_i32_546, v1190, c1_i32_547⟩
def k0_off13 (k0_t6 : Fin k0_t6_loop.trips) : Fin 1 → Nat :=
  let c0_i32_546 : BitVec 32 := 0#32
  let c1_i32_547 : BitVec 32 := 1#32
  let arg17 : BitVec 32 := Scf.iv c0_i32_546 c1_i32_547 k0_t6
  let c16_i32_641 : BitVec 32 := 16#32
  let v1272 : BitVec 32 := Scalar.muli arg17 c16_i32_641
  let v1273 : Index := Scalar.indexCast v1272
  ![v1273.toNat]
@[reducible] def k0_t7_loop : Scf.Loop 32 :=
  let c0_i32_550 : BitVec 32 := 0#32
  let c32_i32_551 : BitVec 32 := 32#32
  let v1192 : BitVec 32 := Scalar.addi c0_i32_550 c32_i32_551
  let c1_i32_552 : BitVec 32 := 1#32
  ⟨c0_i32_550, v1192, c1_i32_552⟩
def k0_off14 (k0_t7 : Fin k0_t7_loop.trips) : Fin 2 → Nat :=
  let c0_i32_642 : BitVec 32 := 0#32
  let v1273 : Index := Scalar.indexCast c0_i32_642
  let c0_i32_550 : BitVec 32 := 0#32
  let c1_i32_552 : BitVec 32 := 1#32
  let arg17 : BitVec 32 := Scf.iv c0_i32_550 c1_i32_552 k0_t7
  let c16_i32_641 : BitVec 32 := 16#32
  let v1272 : BitVec 32 := Scalar.muli arg17 c16_i32_641
  let v1274 : Index := Scalar.indexCast v1272
  ![0, v1274.toNat]
def k0_off15 (k0_t7 : Fin k0_t7_loop.trips) : Fin 1 → Nat :=
  let c0_i32_550 : BitVec 32 := 0#32
  let c1_i32_552 : BitVec 32 := 1#32
  let arg17 : BitVec 32 := Scf.iv c0_i32_550 c1_i32_552 k0_t7
  let c16_i32_643 : BitVec 32 := 16#32
  let v1276 : BitVec 32 := Scalar.muli arg17 c16_i32_643
  let v1277 : Index := Scalar.indexCast v1276
  ![v1277.toNat]

def k0_chk69 (v1287 : IVec S16 32) : Prop :=
  (∀ a x, ((![v1287] : Fin 1 → IVec S16 32) a x).toNat < S50048.size a)
theorem k0_idx69_inb : ∀ (v1287 : IVec S16 32) (k0_hw69 : k0_chk69 v1287), ∀ a x, ((![v1287] : Fin 1 → IVec S16 32) a x).toNat < S50048.size a := fun v1287 k0_hw69 => k0_hw69
@[reducible] def k0_t8_loop : Scf.Loop 32 :=
  let c0_i32_555 : BitVec 32 := 0#32
  let c16_i32_556 : BitVec 32 := 16#32
  let v1194 : BitVec 32 := Scalar.addi c0_i32_555 c16_i32_556
  let c1_i32_557 : BitVec 32 := 1#32
  ⟨c0_i32_555, v1194, c1_i32_557⟩
def k0_off16 (k0_t8 : Fin k0_t8_loop.trips) : Fin 1 → Nat :=
  let c0_i32_555 : BitVec 32 := 0#32
  let c1_i32_557 : BitVec 32 := 1#32
  let arg17 : BitVec 32 := Scf.iv c0_i32_555 c1_i32_557 k0_t8
  let c16_i32_641 : BitVec 32 := 16#32
  let v1272 : BitVec 32 := Scalar.muli arg17 c16_i32_641
  let v1273 : Index := Scalar.indexCast v1272
  ![v1273.toNat]

def k0_chk70 (v1289 : IVec S16 32) : Prop :=
  (∀ a x, ((![v1289] : Fin 1 → IVec S16 32) a x).toNat < S50048.size a)
theorem k0_idx70_inb : ∀ (v1289 : IVec S16 32) (k0_hw70 : k0_chk70 v1289), ∀ a x, ((![v1289] : Fin 1 → IVec S16 32) a x).toNat < S50048.size a := fun v1289 k0_hw70 => k0_hw70
@[reducible] def k0_t9_loop : Scf.Loop 32 :=
  let c0_i32_580 : BitVec 32 := 0#32
  let c32_i32_581 : BitVec 32 := 32#32
  let v1224 : BitVec 32 := Scalar.addi c0_i32_580 c32_i32_581
  let c1_i32_582 : BitVec 32 := 1#32
  ⟨c0_i32_580, v1224, c1_i32_582⟩
def k0_off17 (k0_t9 : Fin k0_t9_loop.trips) : Fin 2 → Nat :=
  let c1_i32_642 : BitVec 32 := 1#32
  let v1273 : Index := Scalar.indexCast c1_i32_642
  let c0_i32_580 : BitVec 32 := 0#32
  let c1_i32_582 : BitVec 32 := 1#32
  let arg17 : BitVec 32 := Scf.iv c0_i32_580 c1_i32_582 k0_t9
  let c16_i32_641 : BitVec 32 := 16#32
  let v1272 : BitVec 32 := Scalar.muli arg17 c16_i32_641
  let v1274 : Index := Scalar.indexCast v1272
  ![1, v1274.toNat]

def k0_chk71 (v1284 : IVec S16 32) : Prop :=
  (∀ a x, ((![v1284] : Fin 1 → IVec S16 32) a x).toNat < S49952.size a)
theorem k0_idx71_inb : ∀ (v1284 : IVec S16 32) (k0_hw71 : k0_chk71 v1284), ∀ a x, ((![v1284] : Fin 1 → IVec S16 32) a x).toNat < S49952.size a := fun v1284 k0_hw71 => k0_hw71
def k0_off18 (k0_t9 : Fin k0_t9_loop.trips) : Fin 1 → Nat :=
  let c0_i32_580 : BitVec 32 := 0#32
  let c1_i32_582 : BitVec 32 := 1#32
  let arg17 : BitVec 32 := Scf.iv c0_i32_580 c1_i32_582 k0_t9
  let c16_i32_647 : BitVec 32 := 16#32
  let v1286 : BitVec 32 := Scalar.muli arg17 c16_i32_647
  let v1287 : Index := Scalar.indexCast v1286
  ![v1287.toNat]
@[reducible] def k0_t10_loop : Scf.Loop 32 :=
  let c0_i32_585 : BitVec 32 := 0#32
  let c3122_i32_586 : BitVec 32 := 3122#32
  let v1226 : BitVec 32 := Scalar.addi c0_i32_585 c3122_i32_586
  let c1_i32_587 : BitVec 32 := 1#32
  ⟨c0_i32_585, v1226, c1_i32_587⟩
def k0_off19 (k0_t10 : Fin k0_t10_loop.trips) : Fin 1 → Nat :=
  let c0_i32_585 : BitVec 32 := 0#32
  let c1_i32_587 : BitVec 32 := 1#32
  let arg17 : BitVec 32 := Scf.iv c0_i32_585 c1_i32_587 k0_t10
  let c16_i32_641 : BitVec 32 := 16#32
  let v1272 : BitVec 32 := Scalar.muli arg17 c16_i32_641
  let v1273 : Index := Scalar.indexCast v1272
  ![v1273.toNat]
@[reducible] def k0_t11_loop : Scf.Loop 32 :=
  let c0_i32_590 : BitVec 32 := 0#32
  let c32_i32_591 : BitVec 32 := 32#32
  let v1228 : BitVec 32 := Scalar.addi c0_i32_590 c32_i32_591
  let c1_i32_592 : BitVec 32 := 1#32
  ⟨c0_i32_590, v1228, c1_i32_592⟩
def k0_off20 (k0_t11 : Fin k0_t11_loop.trips) : Fin 2 → Nat :=
  let c1_i32_642 : BitVec 32 := 1#32
  let v1273 : Index := Scalar.indexCast c1_i32_642
  let c0_i32_590 : BitVec 32 := 0#32
  let c1_i32_592 : BitVec 32 := 1#32
  let arg17 : BitVec 32 := Scf.iv c0_i32_590 c1_i32_592 k0_t11
  let c16_i32_641 : BitVec 32 := 16#32
  let v1272 : BitVec 32 := Scalar.muli arg17 c16_i32_641
  let v1274 : Index := Scalar.indexCast v1272
  ![1, v1274.toNat]
def k0_off21 (k0_t11 : Fin k0_t11_loop.trips) : Fin 1 → Nat :=
  let c0_i32_590 : BitVec 32 := 0#32
  let c1_i32_592 : BitVec 32 := 1#32
  let arg17 : BitVec 32 := Scf.iv c0_i32_590 c1_i32_592 k0_t11
  let c16_i32_643 : BitVec 32 := 16#32
  let v1276 : BitVec 32 := Scalar.muli arg17 c16_i32_643
  let v1277 : Index := Scalar.indexCast v1276
  ![v1277.toNat]

def k0_chk72 (v1287 : IVec S16 32) : Prop :=
  (∀ a x, ((![v1287] : Fin 1 → IVec S16 32) a x).toNat < S49952.size a)
theorem k0_idx72_inb : ∀ (v1287 : IVec S16 32) (k0_hw72 : k0_chk72 v1287), ∀ a x, ((![v1287] : Fin 1 → IVec S16 32) a x).toNat < S49952.size a := fun v1287 k0_hw72 => k0_hw72
@[reducible] def k0_t12_loop : Scf.Loop 32 :=
  let c0_i32_595 : BitVec 32 := 0#32
  let c16_i32_596 : BitVec 32 := 16#32
  let v1230 : BitVec 32 := Scalar.addi c0_i32_595 c16_i32_596
  let c1_i32_597 : BitVec 32 := 1#32
  ⟨c0_i32_595, v1230, c1_i32_597⟩
def k0_off22 (k0_t12 : Fin k0_t12_loop.trips) : Fin 1 → Nat :=
  let c0_i32_595 : BitVec 32 := 0#32
  let c1_i32_597 : BitVec 32 := 1#32
  let arg17 : BitVec 32 := Scf.iv c0_i32_595 c1_i32_597 k0_t12
  let c16_i32_641 : BitVec 32 := 16#32
  let v1272 : BitVec 32 := Scalar.muli arg17 c16_i32_641
  let v1273 : Index := Scalar.indexCast v1272
  ![v1273.toNat]

def k0_chk73 (v1289 : IVec S16 32) : Prop :=
  (∀ a x, ((![v1289] : Fin 1 → IVec S16 32) a x).toNat < S49952.size a)
theorem k0_idx73_inb : ∀ (v1289 : IVec S16 32) (k0_hw73 : k0_chk73 v1289), ∀ a x, ((![v1289] : Fin 1 → IVec S16 32) a x).toNat < S49952.size a := fun v1289 k0_hw73 => k0_hw73
@[reducible] def k0_t13_loop : Scf.Loop 32 :=
  let c0_i32_610 : BitVec 32 := 0#32
  let c32_i32_611 : BitVec 32 := 32#32
  let v1246 : BitVec 32 := Scalar.addi c0_i32_610 c32_i32_611
  let c1_i32_612 : BitVec 32 := 1#32
  ⟨c0_i32_610, v1246, c1_i32_612⟩
def k0_off23 (k0_t13 : Fin k0_t13_loop.trips) : Fin 2 → Nat :=
  let c1_i32_642 : BitVec 32 := 1#32
  let v1273 : Index := Scalar.indexCast c1_i32_642
  let c0_i32_610 : BitVec 32 := 0#32
  let c1_i32_612 : BitVec 32 := 1#32
  let arg17 : BitVec 32 := Scf.iv c0_i32_610 c1_i32_612 k0_t13
  let c16_i32_641 : BitVec 32 := 16#32
  let v1272 : BitVec 32 := Scalar.muli arg17 c16_i32_641
  let v1274 : Index := Scalar.indexCast v1272
  ![1, v1274.toNat]

def k0_chk74 (v1284 : IVec S16 32) : Prop :=
  (∀ a x, ((![v1284] : Fin 1 → IVec S16 32) a x).toNat < S50048.size a)
theorem k0_idx74_inb : ∀ (v1284 : IVec S16 32) (k0_hw74 : k0_chk74 v1284), ∀ a x, ((![v1284] : Fin 1 → IVec S16 32) a x).toNat < S50048.size a := fun v1284 k0_hw74 => k0_hw74
def k0_off24 (k0_t13 : Fin k0_t13_loop.trips) : Fin 1 → Nat :=
  let c0_i32_610 : BitVec 32 := 0#32
  let c1_i32_612 : BitVec 32 := 1#32
  let arg17 : BitVec 32 := Scf.iv c0_i32_610 c1_i32_612 k0_t13
  let c16_i32_647 : BitVec 32 := 16#32
  let v1286 : BitVec 32 := Scalar.muli arg17 c16_i32_647
  let v1287 : Index := Scalar.indexCast v1286
  ![v1287.toNat]
@[reducible] def k0_t14_loop : Scf.Loop 32 :=
  let c0_i32_615 : BitVec 32 := 0#32
  let c3128_i32_616 : BitVec 32 := 3128#32
  let v1248 : BitVec 32 := Scalar.addi c0_i32_615 c3128_i32_616
  let c1_i32_617 : BitVec 32 := 1#32
  ⟨c0_i32_615, v1248, c1_i32_617⟩
def k0_off25 (k0_t14 : Fin k0_t14_loop.trips) : Fin 1 → Nat :=
  let c0_i32_615 : BitVec 32 := 0#32
  let c1_i32_617 : BitVec 32 := 1#32
  let arg17 : BitVec 32 := Scf.iv c0_i32_615 c1_i32_617 k0_t14
  let c16_i32_641 : BitVec 32 := 16#32
  let v1272 : BitVec 32 := Scalar.muli arg17 c16_i32_641
  let v1273 : Index := Scalar.indexCast v1272
  ![v1273.toNat]
@[reducible] def k0_t15_loop : Scf.Loop 32 :=
  let c0_i32_620 : BitVec 32 := 0#32
  let c32_i32_621 : BitVec 32 := 32#32
  let v1250 : BitVec 32 := Scalar.addi c0_i32_620 c32_i32_621
  let c1_i32_622 : BitVec 32 := 1#32
  ⟨c0_i32_620, v1250, c1_i32_622⟩
def k0_off26 (k0_t15 : Fin k0_t15_loop.trips) : Fin 2 → Nat :=
  let c1_i32_642 : BitVec 32 := 1#32
  let v1273 : Index := Scalar.indexCast c1_i32_642
  let c0_i32_620 : BitVec 32 := 0#32
  let c1_i32_622 : BitVec 32 := 1#32
  let arg17 : BitVec 32 := Scf.iv c0_i32_620 c1_i32_622 k0_t15
  let c16_i32_641 : BitVec 32 := 16#32
  let v1272 : BitVec 32 := Scalar.muli arg17 c16_i32_641
  let v1274 : Index := Scalar.indexCast v1272
  ![1, v1274.toNat]
def k0_off27 (k0_t15 : Fin k0_t15_loop.trips) : Fin 1 → Nat :=
  let c0_i32_620 : BitVec 32 := 0#32
  let c1_i32_622 : BitVec 32 := 1#32
  let arg17 : BitVec 32 := Scf.iv c0_i32_620 c1_i32_622 k0_t15
  let c16_i32_643 : BitVec 32 := 16#32
  let v1276 : BitVec 32 := Scalar.muli arg17 c16_i32_643
  let v1277 : Index := Scalar.indexCast v1276
  ![v1277.toNat]

def k0_chk75 (v1287 : IVec S16 32) : Prop :=
  (∀ a x, ((![v1287] : Fin 1 → IVec S16 32) a x).toNat < S50048.size a)
theorem k0_idx75_inb : ∀ (v1287 : IVec S16 32) (k0_hw75 : k0_chk75 v1287), ∀ a x, ((![v1287] : Fin 1 → IVec S16 32) a x).toNat < S50048.size a := fun v1287 k0_hw75 => k0_hw75
@[reducible] def k0_t16_loop : Scf.Loop 32 :=
  let c0_i32_625 : BitVec 32 := 0#32
  let c16_i32_626 : BitVec 32 := 16#32
  let v1252 : BitVec 32 := Scalar.addi c0_i32_625 c16_i32_626
  let c1_i32_627 : BitVec 32 := 1#32
  ⟨c0_i32_625, v1252, c1_i32_627⟩
def k0_off28 (k0_t16 : Fin k0_t16_loop.trips) : Fin 1 → Nat :=
  let c0_i32_625 : BitVec 32 := 0#32
  let c1_i32_627 : BitVec 32 := 1#32
  let arg17 : BitVec 32 := Scf.iv c0_i32_625 c1_i32_627 k0_t16
  let c16_i32_641 : BitVec 32 := 16#32
  let v1272 : BitVec 32 := Scalar.muli arg17 c16_i32_641
  let v1273 : Index := Scalar.indexCast v1272
  ![v1273.toNat]

def k0_chk76 (v1289 : IVec S16 32) : Prop :=
  (∀ a x, ((![v1289] : Fin 1 → IVec S16 32) a x).toNat < S50048.size a)
theorem k0_idx76_inb : ∀ (v1289 : IVec S16 32) (k0_hw76 : k0_chk76 v1289), ∀ a x, ((![v1289] : Fin 1 → IVec S16 32) a x).toNat < S50048.size a := fun v1289 k0_hw76 => k0_hw76
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048 : Shape := ⟨2, ![64, 2048]⟩
abbrev S64x100000 : Shape := ⟨2, ![64, 100000]⟩
abbrev S64x512 : Shape := ⟨2, ![64, 512]⟩
abbrev S256 : Shape := ⟨1, ![256]⟩
abbrev S64 : Shape := ⟨1, ![64]⟩
abbrev S64x1 : Shape := ⟨2, ![64, 1]⟩
abbrev S_ : Shape := ⟨0, ![]⟩
abbrev S64x512x1 : Shape := ⟨3, ![64, 512, 1]⟩
abbrev S64x512x2 : Shape := ⟨3, ![64, 512, 2]⟩
abbrev S100000 : Shape := ⟨1, ![100000]⟩
abbrev S256x1 : Shape := ⟨2, ![256, 1]⟩
abbrev S1x100000 : Shape := ⟨2, ![1, 100000]⟩

abbrev nBuf : Space → Nat
  | .hbm => 54
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64x100000, .f32⟩
  | .hbm, ⟨2, _⟩ => ⟨S64x512, .i32⟩
  | .hbm, ⟨3, _⟩ => ⟨S256, .i32⟩
  | .hbm, ⟨4, _⟩ => ⟨S64, .i32⟩
  | .hbm, ⟨5, _⟩ => ⟨S64x1, .i32⟩
  | .hbm, ⟨6, _⟩ => ⟨S_, .i1⟩
  | .hbm, ⟨7, _⟩ => ⟨S64x100000, .i1⟩
  | .hbm, ⟨8, _⟩ => ⟨S_, .i32⟩
  | .hbm, ⟨9, _⟩ => ⟨S64x1, .i32⟩
  | .hbm, ⟨10, _⟩ => ⟨S64x1, .i1⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x512, .i32⟩
  | .hbm, ⟨17, _⟩ => ⟨S64x512, .i1⟩
  | .hbm, ⟨18, _⟩ => ⟨S_, .i32⟩
  | .hbm, ⟨19, _⟩ => ⟨S64x512, .i32⟩
  | .hbm, ⟨20, _⟩ => ⟨S64x512, .i32⟩
  | .hbm, ⟨21, _⟩ => ⟨S64x512, .i32⟩
  | .hbm, ⟨22, _⟩ => ⟨S64x512, .i32⟩
  | .hbm, ⟨23, _⟩ => ⟨S64x512x1, .i32⟩
  | .hbm, ⟨24, _⟩ => ⟨S64x512x1, .i32⟩
  | .hbm, ⟨25, _⟩ => ⟨S64x512x2, .i32⟩
  | .hbm, ⟨26, _⟩ => ⟨S_, .i1⟩
  | .hbm, ⟨27, _⟩ => ⟨S64x512, .i1⟩
  | .hbm, ⟨28, _⟩ => ⟨S64x100000, .i1⟩
  | .hbm, ⟨29, _⟩ => ⟨S_, .f32⟩
  | .hbm, ⟨30, _⟩ => ⟨S64x100000, .f32⟩
  | .hbm, ⟨31, _⟩ => ⟨S64x100000, .f32⟩
  | .hbm, ⟨32, _⟩ => ⟨S_, .i1⟩
  | .hbm, ⟨33, _⟩ => ⟨S100000, .i1⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S_, .i1⟩
  | .hbm, ⟨43, _⟩ => ⟨S256, .i1⟩
  | .hbm, ⟨44, _⟩ => ⟨S100000, .i1⟩
  | .hbm, ⟨45, _⟩ => ⟨S1x100000, .i1⟩
  | .hbm, ⟨46, _⟩ => ⟨S64x100000, .i1⟩
  | .hbm, ⟨47, _⟩ => ⟨S64x100000, .i1⟩
  | .hbm, ⟨48, _⟩ => ⟨S_, .f32⟩
  | .hbm, ⟨49, _⟩ => ⟨S_, .f32⟩
  | .hbm, ⟨50, _⟩ => ⟨S64x100000, .f32⟩
  | .hbm, ⟨51, _⟩ => ⟨S64x100000, .f32⟩
  | .hbm, ⟨52, _⟩ => ⟨S64x100000, .f32⟩
  | .hbm, ⟨53, _⟩ => ⟨S64x100000, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_call0_v0 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_cst_10 : Ref sig .tc := ⟨.hbm, 49, rfl⟩
abbrev main_call1_v0 : Ref sig .tc := ⟨.hbm, 50, rfl⟩
abbrev main_call1_v1 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Proof.Steps.lean ====
module

public import proofs.«01_k».proof.Proof.Gen.KernelIdeal
public import proofs.«01_k».proof.Proof.Gen.KernelIdeal.Skeleton

@[expose] public section

/-! # The kernel as a sequence of like steps

The kernel prints sixteen groups of tags stored, sixteen read back, twice over (one time per half of the
vocabulary), and then four chunks (two rows, two halves) of four loops each. Here the step, the trip and the chunk
are written once, over the half, the group or the row, and the whole printed kernel is shown to be their sequence. -/

noncomputable section

namespace Cert.Proof

open Idealize.ShloMosaic Idealize.SL.Sem
open Cert.KernelIdeal Cert.KernelIdeal.Gen

variable {F : FTy → Type} [FloatOps F]

/-- The programs of the vector processor at grid point `i`. -/
abbrev VProg (F : FTy → Type) (i : grid0.Coords) (α : Type) :=
  Prog (TpuEff nD τ sig (Elt F) Λ₀ (.scVector ((i 0).castLE hcore0) ((i 1).castLE hsub0))) α

/-- The vectors of length `n`. -/
abbrev Sn (n : ℕ) : Shape := ⟨1, ![n]⟩

/-- Every lane's place is inside a vector of length `n`. -/
def Fits (n : ℕ) (idx : IVec S16 32) : Prop :=
  ∀ a x, ((![idx] : Fin 1 → IVec S16 32) a x).toNat < (Sn n).size a

/-- A half of the vocabulary: `n` positions from `start` on. -/
structure Half where
  n : ℕ
  start : ℕ
  fits : start + n ≤ 100000
  pos : 0 < (Sn n).numel
  dec : ∀ idx, Decidable (Fits n idx)

/-- The first half, positions 0 to 50047. -/
abbrev low : Half := ⟨50048, 0, by decide, h_S50048, k0_chk1.dec⟩

/-- The second half, positions 50048 to 99999. -/
abbrev high : Half := ⟨49952, 50048, by decide, h_S49952, k0_chk65.dec⟩

/-! ## What one step computes on sixteen lanes -/

/-- The lanes' numbers, 0 to 15. -/
abbrev lanes : IVec S16 32 := iota .scVector S16 32 [0] iota_S16_d0_w32_scVector

/-- Which lanes hold a position of the half. -/
def Half.holds (h : Half) (v : IVec S16 32) : IVec S16 1 :=
  andi (cmpi .sge v (broadcast S16 (BitVec.ofNat 32 h.start)))
    (cmpi .slt v (broadcast S16 (BitVec.ofNat 32 (h.start + h.n))))

/-- The place of each lane's position inside the half; 0 on a lane outside the mask. -/
def Half.place (h : Half) (m : IVec S16 1) (v : IVec S16 32) : IVec S16 32 :=
  select m (subi v (broadcast S16 (BitVec.ofNat 32 h.start))) (broadcast S16 0#32)

/-- The tags of the `j`-th group of sixteen: `16 j + lane + 1`. -/
def tag (j : ℕ) : FVec F S16 .f32 :=
  sitofp .f32 (addi lanes (broadcast S16 (BitVec.ofNat 32 (16 * j + 1))))

/-- The boost a group's lanes earn: 3 where the lane is in the half and its own tag was read back, else 0. -/
def earned (m : IVec S16 1) (g t : FVec F S16 .f32) : FVec F S16 .f32 :=
  select (andi m (cmpf .oeq g t)) (broadcast S16 (Scalar.ofBits .f32 0x40400000#32))
    (broadcast S16 (Scalar.ofBits .f32 0x00000000#32))

/-- Which lanes boost: those in the half whose boost is positive. -/
def Half.boosts (h : Half) (v : IVec S16 32) (b : FVec F S16 .f32) : IVec S16 1 :=
  andi (h.holds v) (cmpf .ogt b (broadcast S16 (Scalar.ofBits .f32 0x00000000#32)))

/-! ## The steps of tagging -/

theorem inb_group (j : Fin 16) : ∀ a, (![16 * j.val] : Fin 1 → Nat) a + S16.size a ≤ S256.size a := by
  revert j; decide

/-- The `j`-th group of sixteen of a vector of 256. -/
abbrev group (j : Fin 16) : Rect S256 := Rect.unit (s := S256) ![16 * j.val] S16.size (inb_group j)

/-- `f` at `a`, `a + 1`, …, `n` times. -/
def steps {i : grid0.Coords} (f : Fin 16 → VProg F i PUnit) : (n a : ℕ) → a + n ≤ 16 → VProg F i PUnit
  | 0, _, _ => .ret ⟨⟩
  | n + 1, a, h => (f ⟨a, by omega⟩).bind fun _ => steps f n (a + 1) (by omega)

section
variable (i : grid0.Coords) (arg6 : Memref sig .scVector .vmem S50048 .f32)
  (arg10 : Memref sig .scVector .vmem S256 .i32) (arg11 : Memref sig .scVector .vmem S256 .f32) (h : Half)

/-- One masked scatter of a group's tags. -/
def tagStep (j : Fin 16) : VProg F i PUnit := do
  let v : Vec F S16 .i32 ← Prog.lift (.load arg10 (group j).toLoadRect (View.loadsAt_vmem h_S16))
  have hw : Fits low.n (h.place (h.holds v) v) := (← Prog.lift (TpuEff.assume _ (low.dec _))).down
  SparseCore.vectorStoreIdx arg6 ![h.place (h.holds v) v] (tag j.val) (h.holds v) false
    hw (View.stores_vmem_bits_univ h_S50048 rfl)

/-- Reading a group's tags back, for the first half: the boost is set. -/
def backSet (j : Fin 16) : VProg F i PUnit := do
  let v : Vec F S16 .i32 ← Prog.lift (.load arg10 (group j).toLoadRect (View.loadsAt_vmem h_S16))
  have hw : Fits low.n (h.place (h.holds v) v) := (← Prog.lift (TpuEff.assume _ (low.dec _))).down
  let g : Vec F S16 .f32 ← SparseCore.vectorLoadIdx arg6 ![h.place (h.holds v) v] hw
    (View.loads_vmem h_S50048)
  let _ : Vec F S16 .f32 ← Prog.lift (.load arg11 (group j).toLoadRect (View.loadsAt_vmem h_S16))
  Prog.lift (.store arg11 (group j) (earned (h.holds v) g (tag j.val)) Finset.univ
    (View.stores_vmem_bits_univ h_S16 rfl) (.inl rfl))

/-- Reading a group's tags back, for the second half: the boost is added to. -/
def backAdd (j : Fin 16) : VProg F i PUnit := do
  let v : Vec F S16 .i32 ← Prog.lift (.load arg10 (group j).toLoadRect (View.loadsAt_vmem h_S16))
  have hw : Fits low.n (h.place (h.holds v) v) := (← Prog.lift (TpuEff.assume _ (low.dec _))).down
  let g : Vec F S16 .f32 ← SparseCore.vectorLoadIdx arg6 ![h.place (h.holds v) v] hw
    (View.loads_vmem h_S50048)
  let old : Vec F S16 .f32 ← Prog.lift (.load arg11 (group j).toLoadRect (View.loadsAt_vmem h_S16))
  let _ : Vec F S16 .f32 ← Prog.lift (.load arg11 (group j).toLoadRect (View.loadsAt_vmem h_S16))
  Prog.lift (.store arg11 (group j) (addf old (earned (h.holds v) g (tag j.val))) Finset.univ
    (View.stores_vmem_bits_univ h_S16 rfl) (.inl rfl))

end

/-! ## The trips of a chunk -/

section
variable (i : grid0.Coords) (h : Half) (B : Memref sig .scVector .vmem (Sn h.n) .f32)
  (arg8 : Memref sig .scVector .vmem S2x512 .i32) (arg9 : Memref sig .scVector .vmem S512 .f32)
  (arg10 : Memref sig .scVector .vmem S256 .i32) (arg11 : Memref sig .scVector .vmem S256 .f32)

/-- A trip that gathers: sixteen allowed ids of the row, and the buffer's values there. -/
def gatherTrip (o8 : Fin 2 → ℕ) (h8 : ∀ a, o8 a + S1x16.size a ≤ S2x512.size a)
    (o9 : Fin 1 → ℕ) (h9 : ∀ a, o9 a + S16.size a ≤ S512.size a) : VProg F i (BitVec 32) := do
  let ld : Vec F S1x16 .i32 ← Prog.lift (.load arg8 (Rect.unit (s := S2x512) o8 S1x16.size h8).toLoadRect
    (View.loadsAt_vmem h_S1x16))
  have v : IVec S16 32 := shapeCast S16 ld shapeCasts_S1x16_S16
  have hw : Fits h.n (h.place (h.holds v) v) := (← Prog.lift (TpuEff.assume _ (h.dec _))).down
  let g : Vec F S16 .f32 ← SparseCore.vectorLoadIdx B ![h.place (h.holds v) v] hw (View.loads_vmem h.pos)
  let _ : Vec F S16 .f32 ← Prog.lift (.load arg9 (Rect.unit (s := S512) o9 S16.size h9).toLoadRect
    (View.loadsAt_vmem h_S16))
  Prog.lift (.store arg9 (Rect.unit (s := S512) o9 S16.size h9) g Finset.univ
    (View.stores_vmem_bits_univ h_S16 rfl) (.inl rfl))
  pure 0#32

/-- A trip that fills sixteen places with minus infinity. -/
def fillTrip (o : Fin 1 → ℕ) (ho : ∀ a, o a + S16.size a ≤ (Sn h.n).size a) : VProg F i (BitVec 32) := do
  let _ : Vec F S16 .f32 ← Prog.lift (.load B (Rect.unit (s := Sn h.n) o S16.size ho).toLoadRect
    (View.loadsAt_vmem h_S16))
  Prog.lift (.store B (Rect.unit (s := Sn h.n) o S16.size ho) (k0_pay222 (F := F)) Finset.univ
    (View.stores_vmem_bits_univ h_S16 rfl) (.inl rfl))
  pure 0#32

/-- A trip that puts sixteen gathered values back, by a masked scatter. -/
def putTrip (o8 : Fin 2 → ℕ) (h8 : ∀ a, o8 a + S1x16.size a ≤ S2x512.size a)
    (o9 : Fin 1 → ℕ) (h9 : ∀ a, o9 a + S16.size a ≤ S512.size a) : VProg F i (BitVec 32) := do
  let ld : Vec F S1x16 .i32 ← Prog.lift (.load arg8 (Rect.unit (s := S2x512) o8 S1x16.size h8).toLoadRect
    (View.loadsAt_vmem h_S1x16))
  let g : Vec F S16 .f32 ← Prog.lift (.load arg9 (Rect.unit (s := S512) o9 S16.size h9).toLoadRect
    (View.loadsAt_vmem h_S16))
  have v : IVec S16 32 := shapeCast S16 ld shapeCasts_S1x16_S16
  have hw : Fits h.n (h.place (h.holds v) v) := (← Prog.lift (TpuEff.assume _ (h.dec _))).down
  SparseCore.vectorStoreIdx B ![h.place (h.holds v) v] g (h.holds v) false hw
    (View.stores_vmem_bits_univ h.pos rfl)
  pure 0#32

/-- A trip that adds sixteen boosts, by a masked adding scatter. -/
def boostTrip (o : Fin 1 → ℕ) (ho : ∀ a, o a + S16.size a ≤ S256.size a) : VProg F i (BitVec 32) := do
  let v : Vec F S16 .i32 ← Prog.lift (.load arg10 (Rect.unit (s := S256) o S16.size ho).toLoadRect
    (View.loadsAt_vmem h_S16))
  let b : Vec F S16 .f32 ← Prog.lift (.load arg11 (Rect.unit (s := S256) o S16.size ho).toLoadRect
    (View.loadsAt_vmem h_S16))
  have hw : Fits h.n (h.place (h.boosts v b) v) := (← Prog.lift (TpuEff.assume _ (h.dec _))).down
  SparseCore.vectorStoreIdx B ![h.place (h.boosts v b) v] b (h.boosts v b) true hw
    (View.stores_vmem_bits_univ h.pos rfl)
  pure 0#32

end

/-- The loops of a chunk: how often each runs and where each trip reads. -/
structure Walk (h : Half) (r : Fin 2) where
  gather : Scf.Loop 32
  gatherOk : gather.OK
  gather_trips : gather.trips = 32
  gather8 : Fin gather.trips → Fin 2 → ℕ
  gather8_inb : ∀ k a, gather8 k a + S1x16.size a ≤ S2x512.size a
  gather8_eq : ∀ k, gather8 k = ![r.val, 16 * k.val]
  gather9 : Fin gather.trips → Fin 1 → ℕ
  gather9_inb : ∀ k a, gather9 k a + S16.size a ≤ S512.size a
  gather9_eq : ∀ k, gather9 k = ![16 * k.val]
  fill : Scf.Loop 32
  fillOk : fill.OK
  fill_trips : 16 * fill.trips = h.n
  fillB : Fin fill.trips → Fin 1 → ℕ
  fillB_inb : ∀ k a, fillB k a + S16.size a ≤ (Sn h.n).size a
  fillB_eq : ∀ k, fillB k = ![16 * k.val]
  put : Scf.Loop 32
  putOk : put.OK
  put_trips : put.trips = 32
  put8 : Fin put.trips → Fin 2 → ℕ
  put8_inb : ∀ k a, put8 k a + S1x16.size a ≤ S2x512.size a
  put8_eq : ∀ k, put8 k = ![r.val, 16 * k.val]
  put9 : Fin put.trips → Fin 1 → ℕ
  put9_inb : ∀ k a, put9 k a + S16.size a ≤ S512.size a
  put9_eq : ∀ k, put9 k = ![16 * k.val]
  boost : Scf.Loop 32
  boostOk : boost.OK
  boost_trips : boost.trips = 16
  boostAt : Fin boost.trips → Fin 1 → ℕ
  boostAt_inb : ∀ k a, boostAt k a + S16.size a ≤ S256.size a
  boostAt_eq : ∀ k, boostAt k = ![16 * k.val]

section
variable (i : grid0.Coords) (h : Half) {r : Fin 2} (w : Walk h r)
  (B : Memref sig .scVector .vmem (Sn h.n) .f32)
  (arg8 : Memref sig .scVector .vmem S2x512 .i32) (arg9 : Memref sig .scVector .vmem S512 .f32)
  (arg10 : Memref sig .scVector .vmem S256 .i32) (arg11 : Memref sig .scVector .vmem S256 .f32)

/-- A chunk: one row's half in its buffer is gathered at the allowed ids, wiped, put back and boosted. -/
def chunk : VProg F i PUnit := do
  let _ ← Scf.Loop.for w.gather w.gatherOk 0#32 fun k _ =>
    gatherTrip i h B arg8 arg9 (w.gather8 k) (w.gather8_inb k) (w.gather9 k) (w.gather9_inb k)
  let _ ← Scf.Loop.for w.fill w.fillOk 0#32 fun k _ => fillTrip i h B (w.fillB k) (w.fillB_inb k)
  let _ ← Scf.Loop.for w.put w.putOk 0#32 fun k _ =>
    putTrip i h B arg8 arg9 (w.put8 k) (w.put8_inb k) (w.put9 k) (w.put9_inb k)
  let _ ← Scf.Loop.for w.boost w.boostOk 0#32 fun k _ =>
    boostTrip i h B arg10 arg11 (w.boostAt k) (w.boostAt_inb k)
  pure ⟨⟩

end

/-- The loops of the chunk: row 0, second half. -/
abbrev walkHigh0 : Walk high 0 :=
  ⟨k0_t1_loop, k0_t1_ok, by decide, k0_off5, k0_off5_inb, k0_off5_eq, k0_off6, k0_off6_inb, k0_off6_eq,
   k0_t2_loop, k0_t2_ok, by decide, k0_off7, k0_off7_inb, k0_off7_eq,
   k0_t3_loop, k0_t3_ok, by decide, k0_off8, k0_off8_inb, k0_off8_eq, k0_off9, k0_off9_inb, k0_off9_eq,
   k0_t4_loop, k0_t4_ok, by decide, k0_off10, k0_off10_inb, k0_off10_eq⟩

/-- The loops of the chunk: row 0, first half. -/
abbrev walkLow0 : Walk low 0 :=
  ⟨k0_t5_loop, k0_t5_ok, by decide, k0_off11, k0_off11_inb, k0_off11_eq, k0_off12, k0_off12_inb, k0_off12_eq,
   k0_t6_loop, k0_t6_ok, by decide, k0_off13, k0_off13_inb, k0_off13_eq,
   k0_t7_loop, k0_t7_ok, by decide, k0_off14, k0_off14_inb, k0_off14_eq, k0_off15, k0_off15_inb, k0_off15_eq,
   k0_t8_loop, k0_t8_ok, by decide, k0_off16, k0_off16_inb, k0_off16_eq⟩

/-- The loops of the chunk: row 1, second half. -/
abbrev walkHigh1 : Walk high 1 :=
  ⟨k0_t9_loop, k0_t9_ok, by decide, k0_off17, k0_off17_inb, k0_off17_eq, k0_off18, k0_off18_inb, k0_off18_eq,
   k0_t10_loop, k0_t10_ok, by decide, k0_off19, k0_off19_inb, k0_off19_eq,
   k0_t11_loop, k0_t11_ok, by decide, k0_off20, k0_off20_inb, k0_off20_eq, k0_off21, k0_off21_inb, k0_off21_eq,
   k0_t12_loop, k0_t12_ok, by decide, k0_off22, k0_off22_inb, k0_off22_eq⟩

/-- The loops of the chunk: row 1, first half. -/
abbrev walkLow1 : Walk low 1 :=
  ⟨k0_t13_loop, k0_t13_ok, by decide, k0_off23, k0_off23_inb, k0_off23_eq, k0_off24, k0_off24_inb, k0_off24_eq,
   k0_t14_loop, k0_t14_ok, by decide, k0_off25, k0_off25_inb, k0_off25_eq,
   k0_t15_loop, k0_t15_ok, by decide, k0_off26, k0_off26_inb, k0_off26_eq, k0_off27, k0_off27_inb, k0_off27_eq,
   k0_t16_loop, k0_t16_ok, by decide, k0_off28, k0_off28_inb, k0_off28_eq⟩

/-- The half of a row of a 64 by 100000 array: `n` places from `lo` on, of the row at `o`. -/
abbrev rowPart (M : Memref sig .scVector .hbm S64x100000 .f32) (o : Fin 2 → ℕ)
    (ho : ∀ a, o a + S1x100000.size a ≤ S64x100000.size a) (h : Half)
    (hl : ∀ a, (![h.start] : Fin 1 → ℕ) a + (Sn h.n).size a ≤ S100000.size a) :
    Memref sig .scVector .hbm (Sn h.n) .f32 :=
  ((M.slice (Rect.unit (s := S64x100000) o S1x100000.size ho) (fun _ => rfl)).squeeze S100000
    squeezes_S1x100000_S100000).slice (Rect.unit (s := S100000) ![h.start] (Sn h.n).size hl) (fun _ => rfl)

abbrev low_inb : ∀ a, (![low.start] : Fin 1 → ℕ) a + (Sn low.n).size a ≤ S100000.size a := inb_S100000_S50048_0
abbrev high_inb : ∀ a, (![high.start] : Fin 1 → ℕ) a + (Sn high.n).size a ≤ S100000.size a :=
  inb_S100000_S49952_50048

/-- The `r`-th row of the ids a processor holds. -/
abbrev idsRow (M : Memref sig .scVector .vmem S2x512 .i32) (o : Fin 2 → ℕ)
    (ho : ∀ a, o a + S1x512.size a ≤ S2x512.size a) : Memref sig .scVector .vmem S512 .i32 :=
  (M.slice (Rect.unit (s := S2x512) o S1x512.size ho) (fun _ => rfl)).squeeze S512 squeezes_S1x512_S512

/-- A row of the allowed ids in main memory. -/
abbrev allowedRow (M : Memref sig .scVector .hbm S64x512 .i32) (o : Fin 2 → ℕ)
    (ho : ∀ a, o a + S1x512.size a ≤ S64x512.size a) : Memref sig .scVector .hbm S512 .i32 :=
  (M.slice (Rect.unit (s := S64x512) o S1x512.size ho) (fun _ => rfl)).squeeze S512 squeezes_S1x512_S512

section
variable (i : grid0.Coords) (arg2 : Memref sig .scVector .hbm S64x100000 .f32) (harg2 : arg2.IsWhole) (arg3 : Memref sig .scVector .hbm S64x512 .i32) (harg3 : arg3.IsWhole) (arg4 : Memref sig .scVector .hbm S256 .i32) (harg4 : arg4.IsWhole) (arg5 : Memref sig .scVector .hbm S64x100000 .f32) (harg5 : arg5.IsWhole) (arg6 : Memref sig .scVector .vmem S50048 .f32) (harg6 : arg6.IsWhole) (arg7 : Memref sig .scVector .vmem S49952 .f32) (harg7 : arg7.IsWhole) (arg8 : Memref sig .scVector .vmem S2x512 .i32) (harg8 : arg8.IsWhole) (arg9 : Memref sig .scVector .vmem S512 .f32) (harg9 : arg9.IsWhole) (arg10 : Memref sig .scVector .vmem S256 .i32) (harg10 : arg10.IsWhole) (arg11 : Memref sig .scVector .vmem S256 .f32) (harg11 : arg11.IsWhole) (arg12 : DmaSems sig S_) (arg13 : DmaSems sig S_) (arg14 : DmaSems sig S_) (arg15 : DmaSems sig S_) (arg16 : DmaSems sig S_) (v1272_r0 : DmaSems sig S_)

/-- All the tagging: both halves, each stored and then read back. -/
def tagging : VProg F i PUnit := do
  steps (tagStep i arg6 arg10 low) 16 0 (by decide)
  steps (backSet i arg6 arg10 arg11 low) 16 0 (by decide)
  steps (tagStep i arg6 arg10 high) 16 0 (by decide)
  steps (backAdd i arg6 arg10 arg11 high) 16 0 (by decide)

/-- What comes before the tagging: the copies in of the first row's second half and of the ids start, the
boosted ids come in. -/
def opening : VProg F i PUnit := do
  Prog.lift (.enqueueDma (rowPart arg2 (k0_off1 i) (k0_off1_inb i) high high_inb) (.here arg7) (.dma arg14.sem)
    (View.wordExact_bits rfl) harg7.wordExact ⟨Or.inl rfl, trivial⟩)
  Prog.lift (.enqueueDma (allowedRow arg3 (k0_off2 i 0#32) (k0_off2_inb i 0))
    (.here (idsRow arg8 ![0, 0] inb_S2x512_S1x512_0_0)) (.dma arg12.sem)
    ((View.wordExact_bits rfl).reshape _ _) ((View.wordExact_bits rfl).reshape _ _) ⟨Or.inl rfl, trivial⟩)
  Prog.lift (.enqueueDma (allowedRow arg3 (k0_off2 i 1#32) (k0_off2_inb i 1))
    (.here (idsRow arg8 ![1, 0] inb_S2x512_S1x512_1_0)) (.dma arg12.sem)
    ((View.wordExact_bits rfl).reshape _ _) ((View.wordExact_bits rfl).reshape _ _) ⟨Or.inl rfl, trivial⟩)
  Prog.lift (.enqueueDma arg4 (.here arg10) (.dma v1272_r0.sem) harg4.wordExact harg10.wordExact
    ⟨Or.inl rfl, trivial⟩)
  Prog.lift (.waitDma2 v1272_r0.sem arg4 arg10 harg4.wordExact harg10.wordExact)

/-- What follows the tagging: the first row's first half starts in, the first row of ids arrives. -/
def between : VProg F i PUnit := do
  Prog.lift (.enqueueDma (rowPart arg2 (k0_off3 i 0#32) (k0_off3_inb i 0) low low_inb) (.here arg6) (.dma arg13.sem)
    (View.wordExact_bits rfl) harg6.wordExact ⟨Or.inl rfl, trivial⟩)
  Prog.lift (.waitDma2 arg12.sem (allowedRow arg3 (k0_off4 i 0#32) (k0_off4_inb i 0))
    (idsRow arg8 ![0, 0] inb_S2x512_S1x512_0_0)
    ((View.wordExact_bits rfl).reshape _ _) ((View.wordExact_bits rfl).reshape _ _))

/-- The chunks, as the kernel prints them. -/
def printedTail (v1 : BitVec 32) : VProg F i PUnit := do
  let v1143 ← k0_part31 i arg2 harg2 arg3 harg3 arg4 harg4 arg5 harg5 arg6 harg6 arg7 harg7 arg8 harg8 arg9 harg9 arg10 harg10 arg11 harg11 arg12 arg13 arg14 arg15 arg16 v1272_r0 v1
  let ⟨c0_i32_545, c0_i32_546⟩ ← k0_part32 i arg2 harg2 arg3 harg3 arg4 harg4 arg5 harg5 arg6 harg6 arg7 harg7 arg8 harg8 arg9 harg9 arg10 harg10 arg11 harg11 arg12 arg13 arg14 arg15 arg16 v1272_r0 v1
  k0_part33 i arg2 harg2 arg3 harg3 arg4 harg4 arg5 harg5 arg6 harg6 arg7 harg7 arg8 harg8 arg9 harg9 arg10 harg10 arg11 harg11 arg12 arg13 arg14 arg15 arg16 v1272_r0 v1 v1143 c0_i32_545 c0_i32_546
  k0_part34 i arg2 harg2 arg3 harg3 arg4 harg4 arg5 harg5 arg6 harg6 arg7 harg7 arg8 harg8 arg9 harg9 arg10 harg10 arg11 harg11 arg12 arg13 arg14 arg15 arg16 v1272_r0 v1 v1143
  k0_part35 i arg2 harg2 arg3 harg3 arg4 harg4 arg5 harg5 arg6 harg6 arg7 harg7 arg8 harg8 arg9 harg9 arg10 harg10 arg11 harg11 arg12 arg13 arg14 arg15 arg16 v1272_r0 v1143
  Prog.lift (.waitDma2 arg16.sem arg7 (rowPart arg5 (k0_off3 i 1#32) (k0_off3_inb i 1) high high_inb)
    harg7.wordExact (View.wordExact_bits rfl))
  pure ⟨⟩

-- the printed kernel is some thousand operations long, and both sides are compared one by one
set_option maxHeartbeats 4000000 in
set_option maxRecDepth 65536 in
/-- The printed kernel up to its chunks is that sequence of steps. -/
theorem cc0_k_eq_printedTail : cc0_k (F := F) i arg2 harg2 arg3 harg3 arg4 harg4 arg5 harg5 arg6 harg6 arg7 harg7 arg8 harg8 arg9 harg9 arg10 harg10 arg11 harg11 arg12 arg13 arg14 arg15 arg16 v1272_r0 =
    (opening i arg2 arg3 arg4 harg4 arg7 harg7 arg8 arg10 harg10 arg12 arg14 v1272_r0).bind fun _ =>
    (tagging i arg6 arg10 arg11).bind fun _ => (between i arg2 arg3 arg6 harg6 arg8 arg12 arg13).bind fun _ =>
    printedTail i arg2 harg2 arg3 harg3 arg4 harg4 arg5 harg5 arg6 harg6 arg7 harg7 arg8 harg8 arg9 harg9 arg10 harg10 arg11 harg11 arg12 arg13 arg14 arg15 arg16 v1272_r0 (Scalar.addi (Scalar.muli (BitVec.ofNat 32 (i 1).val) 2#32) (BitVec.ofNat 32 (i 0).val)) := rfl

/-! ## The chunks -/

/-- The chunks. -/
def chunks : VProg F i PUnit := do
  Prog.lift (.waitDma2 arg12.sem (allowedRow arg3 (k0_off4 i 1#32) (k0_off4_inb i 1))
    (idsRow arg8 ![1, 0] inb_S2x512_S1x512_1_0)
    ((View.wordExact_bits rfl).reshape _ _) ((View.wordExact_bits rfl).reshape _ _))
  Prog.lift (.waitDma2 arg14.sem (rowPart arg2 (k0_off3 i 0#32) (k0_off3_inb i 0) high high_inb) arg7
    (View.wordExact_bits rfl) harg7.wordExact)
  chunk i high walkHigh0 arg7 arg8 arg9 arg10 arg11
  Prog.lift (.enqueueDma arg7 (.here (rowPart arg5 (k0_off3 i 0#32) (k0_off3_inb i 0) high high_inb))
    (.dma arg16.sem) harg7.wordExact (View.wordExact_bits rfl) ⟨Or.inl rfl, trivial⟩)
  Prog.lift (.waitDma2 arg16.sem arg7 (rowPart arg5 (k0_off3 i 0#32) (k0_off3_inb i 0) high high_inb)
    harg7.wordExact (View.wordExact_bits rfl))
  Prog.lift (.enqueueDma (rowPart arg2 (k0_off3 i 1#32) (k0_off3_inb i 1) high high_inb) (.here arg7)
    (.dma arg14.sem) (View.wordExact_bits rfl) harg7.wordExact ⟨Or.inl rfl, trivial⟩)
  Prog.lift (.waitDma2 arg13.sem (rowPart arg2 (k0_off3 i 0#32) (k0_off3_inb i 0) low low_inb) arg6
    (View.wordExact_bits rfl) harg6.wordExact)
  chunk i low walkLow0 arg6 arg8 arg9 arg10 arg11
  Prog.lift (.enqueueDma arg6 (.here (rowPart arg5 (k0_off3 i 0#32) (k0_off3_inb i 0) low low_inb))
    (.dma arg15.sem) harg6.wordExact (View.wordExact_bits rfl) ⟨Or.inl rfl, trivial⟩)
  Prog.lift (.waitDma2 arg15.sem arg6 (rowPart arg5 (k0_off3 i 0#32) (k0_off3_inb i 0) low low_inb)
    harg6.wordExact (View.wordExact_bits rfl))
  Prog.lift (.enqueueDma (rowPart arg2 (k0_off3 i 1#32) (k0_off3_inb i 1) low low_inb) (.here arg6)
    (.dma arg13.sem) (View.wordExact_bits rfl) harg6.wordExact ⟨Or.inl rfl, trivial⟩)
  Prog.lift (.waitDma2 arg14.sem (rowPart arg2 (k0_off3 i 1#32) (k0_off3_inb i 1) high high_inb) arg7
    (View.wordExact_bits rfl) harg7.wordExact)
  chunk i high walkHigh1 arg7 arg8 arg9 arg10 arg11
  Prog.lift (.enqueueDma arg7 (.here (rowPart arg5 (k0_off3 i 1#32) (k0_off3_inb i 1) high high_inb))
    (.dma arg16.sem) harg7.wordExact (View.wordExact_bits rfl) ⟨Or.inl rfl, trivial⟩)
  Prog.lift (.waitDma2 arg13.sem (rowPart arg2 (k0_off3 i 1#32) (k0_off3_inb i 1) low low_inb) arg6
    (View.wordExact_bits rfl) harg6.wordExact)
  chunk i low walkLow1 arg6 arg8 arg9 arg10 arg11
  Prog.lift (.enqueueDma arg6 (.here (rowPart arg5 (k0_off3 i 1#32) (k0_off3_inb i 1) low low_inb))
    (.dma arg15.sem) harg6.wordExact (View.wordExact_bits rfl) ⟨Or.inl rfl, trivial⟩)
  Prog.lift (.waitDma2 arg15.sem arg6 (rowPart arg5 (k0_off3 i 1#32) (k0_off3_inb i 1) low low_inb)
    harg6.wordExact (View.wordExact_bits rfl))
  Prog.lift (.waitDma2 arg16.sem arg7 (rowPart arg5 (k0_off3 i 1#32) (k0_off3_inb i 1) high high_inb)
    harg7.wordExact (View.wordExact_bits rfl))
  pure ⟨⟩

theorem part31_eq (v1 : BitVec 32) : k0_part31 (F := F) i arg2 harg2 arg3 harg3 arg4 harg4 arg5 harg5 arg6 harg6 arg7 harg7 arg8 harg8 arg9 harg9 arg10 harg10 arg11 harg11 arg12 arg13 arg14 arg15 arg16 v1272_r0 v1 = ((do
  Prog.lift (.waitDma2 arg12.sem (allowedRow arg3 (k0_off4 i 1#32) (k0_off4_inb i 1))
    (idsRow arg8 ![1, 0] inb_S2x512_S1x512_1_0)
    ((View.wordExact_bits rfl).reshape _ _) ((View.wordExact_bits rfl).reshape _ _))
  Prog.lift (.waitDma2 arg14.sem (rowPart arg2 (k0_off3 i 0#32) (k0_off3_inb i 0) high high_inb) arg7
    (View.wordExact_bits rfl) harg7.wordExact)
  let _ ← Scf.Loop.for walkHigh0.gather walkHigh0.gatherOk 0#32 fun k _ =>
    gatherTrip i high arg7 arg8 arg9 (walkHigh0.gather8 k) (walkHigh0.gather8_inb k) (walkHigh0.gather9 k) (walkHigh0.gather9_inb k)
  let _ ← Scf.Loop.for walkHigh0.fill walkHigh0.fillOk 0#32 fun k _ => fillTrip i high arg7 (walkHigh0.fillB k) (walkHigh0.fillB_inb k)
  let _ ← Scf.Loop.for walkHigh0.put walkHigh0.putOk 0#32 fun k _ =>
    putTrip i high arg7 arg8 arg9 (walkHigh0.put8 k) (walkHigh0.put8_inb k) (walkHigh0.put9 k) (walkHigh0.put9_inb k)
  let _ ← Scf.Loop.for walkHigh0.boost walkHigh0.boostOk 0#32 fun k _ =>
    boostTrip i high arg7 arg10 arg11 (walkHigh0.boostAt k) (walkHigh0.boostAt_inb k)
  pure (k0_pay222 (F := F))) : VProg F i (FVec F S16 .f32)) := rfl

theorem part32_eq (v1 : BitVec 32) : k0_part32 (F := F) i arg2 harg2 arg3 harg3 arg4 harg4 arg5 harg5 arg6 harg6 arg7 harg7 arg8 harg8 arg9 harg9 arg10 harg10 arg11 harg11 arg12 arg13 arg14 arg15 arg16 v1272_r0 v1 = ((do
  Prog.lift (.enqueueDma arg7 (.here (rowPart arg5 (k0_off3 i 0#32) (k0_off3_inb i 0) high high_inb))
    (.dma arg16.sem) harg7.wordExact (View.wordExact_bits rfl) ⟨Or.inl rfl, trivial⟩)
  Prog.lift (.waitDma2 arg16.sem arg7 (rowPart arg5 (k0_off3 i 0#32) (k0_off3_inb i 0) high high_inb)
    harg7.wordExact (View.wordExact_bits rfl))
  Prog.lift (.enqueueDma (rowPart arg2 (k0_off3 i 1#32) (k0_off3_inb i 1) high high_inb) (.here arg7)
    (.dma arg14.sem) (View.wordExact_bits rfl) harg7.wordExact ⟨Or.inl rfl, trivial⟩)
  Prog.lift (.waitDma2 arg13.sem (rowPart arg2 (k0_off3 i 0#32) (k0_off3_inb i 0) low low_inb) arg6
    (View.wordExact_bits rfl) harg6.wordExact)
  let _ ← Scf.Loop.for walkLow0.gather walkLow0.gatherOk 0#32 fun k _ =>
    gatherTrip i low arg6 arg8 arg9 (walkLow0.gather8 k) (walkLow0.gather8_inb k) (walkLow0.gather9 k) (walkLow0.gather9_inb k)
  pure ⟨0#32, 0#32⟩) : VProg F i (Σ' (_ : BitVec 32), BitVec 32)) := rfl

theorem part33_eq (v1 : BitVec 32) : k0_part33 (F := F) i arg2 harg2 arg3 harg3 arg4 harg4 arg5 harg5 arg6 harg6 arg7 harg7 arg8 harg8 arg9 harg9 arg10 harg10 arg11 harg11 arg12 arg13 arg14 arg15 arg16 v1272_r0 v1 (k0_pay222 (F := F)) 0#32 0#32 = ((do
  let _ ← Scf.Loop.for walkLow0.fill walkLow0.fillOk 0#32 fun k _ => fillTrip i low arg6 (walkLow0.fillB k) (walkLow0.fillB_inb k)
  let _ ← Scf.Loop.for walkLow0.put walkLow0.putOk 0#32 fun k _ =>
    putTrip i low arg6 arg8 arg9 (walkLow0.put8 k) (walkLow0.put8_inb k) (walkLow0.put9 k) (walkLow0.put9_inb k)
  let _ ← Scf.Loop.for walkLow0.boost walkLow0.boostOk 0#32 fun k _ =>
    boostTrip i low arg6 arg10 arg11 (walkLow0.boostAt k) (walkLow0.boostAt_inb k)
  Prog.lift (.enqueueDma arg6 (.here (rowPart arg5 (k0_off3 i 0#32) (k0_off3_inb i 0) low low_inb))
    (.dma arg15.sem) harg6.wordExact (View.wordExact_bits rfl) ⟨Or.inl rfl, trivial⟩)
  Prog.lift (.waitDma2 arg15.sem arg6 (rowPart arg5 (k0_off3 i 0#32) (k0_off3_inb i 0) low low_inb)
    harg6.wordExact (View.wordExact_bits rfl))
  Prog.lift (.enqueueDma (rowPart arg2 (k0_off3 i 1#32) (k0_off3_inb i 1) low low_inb) (.here arg6)
    (.dma arg13.sem) (View.wordExact_bits rfl) harg6.wordExact ⟨Or.inl rfl, trivial⟩)
  pure ⟨⟩) : VProg F i PUnit) := rfl

theorem part34_eq (v1 : BitVec 32) : k0_part34 (F := F) i arg2 harg2 arg3 harg3 arg4 harg4 arg5 harg5 arg6 harg6 arg7 harg7 arg8 harg8 arg9 harg9 arg10 harg10 arg11 harg11 arg12 arg13 arg14 arg15 arg16 v1272_r0 v1 (k0_pay222 (F := F)) = ((do
  Prog.lift (.waitDma2 arg14.sem (rowPart arg2 (k0_off3 i 1#32) (k0_off3_inb i 1) high high_inb) arg7
    (View.wordExact_bits rfl) harg7.wordExact)
  let _ ← Scf.Loop.for walkHigh1.gather walkHigh1.gatherOk 0#32 fun k _ =>
    gatherTrip i high arg7 arg8 arg9 (walkHigh1.gather8 k) (walkHigh1.gather8_inb k) (walkHigh1.gather9 k) (walkHigh1.gather9_inb k)
  let _ ← Scf.Loop.for walkHigh1.fill walkHigh1.fillOk 0#32 fun k _ => fillTrip i high arg7 (walkHigh1.fillB k) (walkHigh1.fillB_inb k)
  let _ ← Scf.Loop.for walkHigh1.put walkHigh1.putOk 0#32 fun k _ =>
    putTrip i high arg7 arg8 arg9 (walkHigh1.put8 k) (walkHigh1.put8_inb k) (walkHigh1.put9 k) (walkHigh1.put9_inb k)
  let _ ← Scf.Loop.for walkHigh1.boost walkHigh1.boostOk 0#32 fun k _ =>
    boostTrip i high arg7 arg10 arg11 (walkHigh1.boostAt k) (walkHigh1.boostAt_inb k)
  Prog.lift (.enqueueDma arg7 (.here (rowPart arg5 (k0_off3 i 1#32) (k0_off3_inb i 1) high high_inb))
    (.dma arg16.sem) harg7.wordExact (View.wordExact_bits rfl) ⟨Or.inl rfl, trivial⟩)
  pure ⟨⟩) : VProg F i PUnit) := rfl

theorem part35_eq  : k0_part35 (F := F) i arg2 harg2 arg3 harg3 arg4 harg4 arg5 harg5 arg6 harg6 arg7 harg7 arg8 harg8 arg9 harg9 arg10 harg10 arg11 harg11 arg12 arg13 arg14 arg15 arg16 v1272_r0 (k0_pay222 (F := F)) = ((do
  Prog.lift (.waitDma2 arg13.sem (rowPart arg2 (k0_off3 i 1#32) (k0_off3_inb i 1) low low_inb) arg6
    (View.wordExact_bits rfl) harg6.wordExact)
  let _ ← Scf.Loop.for walkLow1.gather walkLow1.gatherOk 0#32 fun k _ =>
    gatherTrip i low arg6 arg8 arg9 (walkLow1.gather8 k) (walkLow1.gather8_inb k) (walkLow1.gather9 k) (walkLow1.gather9_inb k)
  let _ ← Scf.Loop.for walkLow1.fill walkLow1.fillOk 0#32 fun k _ => fillTrip i low arg6 (walkLow1.fillB k) (walkLow1.fillB_inb k)
  let _ ← Scf.Loop.for walkLow1.put walkLow1.putOk 0#32 fun k _ =>
    putTrip i low arg6 arg8 arg9 (walkLow1.put8 k) (walkLow1.put8_inb k) (walkLow1.put9 k) (walkLow1.put9_inb k)
  let _ ← Scf.Loop.for walkLow1.boost walkLow1.boostOk 0#32 fun k _ =>
    boostTrip i low arg6 arg10 arg11 (walkLow1.boostAt k) (walkLow1.boostAt_inb k)
  Prog.lift (.enqueueDma arg6 (.here (rowPart arg5 (k0_off3 i 1#32) (k0_off3_inb i 1) low low_inb))
    (.dma arg15.sem) harg6.wordExact (View.wordExact_bits rfl) ⟨Or.inl rfl, trivial⟩)
  Prog.lift (.waitDma2 arg15.sem arg6 (rowPart arg5 (k0_off3 i 1#32) (k0_off3_inb i 1) low low_inb)
    harg6.wordExact (View.wordExact_bits rfl))
  pure ⟨⟩) : VProg F i PUnit) := rfl

/-- The printed chunks are the sequence of chunks. -/
theorem printedTail_eq (v1 : BitVec 32) : printedTail (F := F) i arg2 harg2 arg3 harg3 arg4 harg4 arg5 harg5 arg6 harg6 arg7 harg7 arg8 harg8 arg9 harg9 arg10 harg10 arg11 harg11 arg12 arg13 arg14 arg15 arg16 v1272_r0 v1 =
    chunks i arg2 arg3 arg5 arg6 harg6 arg7 harg7 arg8 arg9 arg10 arg11 arg12 arg13 arg14 arg15 arg16 := by
  simp only [printedTail, chunks, chunk, part31_eq, part32_eq, part33_eq, part34_eq, part35_eq, bind_assoc, pure_bind]

/-- The printed kernel is the opening, the tagging and the chunks. -/
theorem cc0_k_eq : cc0_k (F := F) i arg2 harg2 arg3 harg3 arg4 harg4 arg5 harg5 arg6 harg6 arg7 harg7 arg8 harg8 arg9 harg9 arg10 harg10 arg11 harg11 arg12 arg13 arg14 arg15 arg16 v1272_r0 =
    (opening i arg2 arg3 arg4 harg4 arg7 harg7 arg8 arg10 harg10 arg12 arg14 v1272_r0).bind fun _ =>
    (tagging i arg6 arg10 arg11).bind fun _ => (between i arg2 arg3 arg6 harg6 arg8 arg12 arg13).bind fun _ =>
    chunks i arg2 arg3 arg5 arg6 harg6 arg7 harg7 arg8 arg9 arg10 arg11 arg12 arg13 arg14 arg15 arg16 := by
  rw [cc0_k_eq_printedTail, printedTail_eq]

end

end Cert.Proof
-- ==== Proof.Scatter.lean ====
module

public import proofs.«01_k».proof.Proof.Steps
public import Idealize.ShloMosaic.Lib.WordArith

@[expose] public section

/-! # What the masked scatters leave

A masked store of sixteen lanes, read at one place: the last lane that names the place wins, and with `add` the
lanes that name it are added in turn. From this follow the invariants of the tagging and of a chunk's loops. -/

noncomputable section

namespace Cert.Proof

open Idealize.ShloMosaic
open Cert.KernelIdeal Cert.KernelIdeal.Gen

variable {F : FTy → Type} [FloatOps F]

/-! ## Indices of vectors -/

/-- Lane `k` of sixteen. -/
abbrev lane (k : Fin 16) : S16.Idx := Shape.ofLane (d := ![16]) k

theorem idx_ext {n : ℕ} {j j' : (Sn n).Idx} (h : (j 0).val = (j' 0).val) : j = j' := by
  funext a
  obtain rfl : a = 0 := Subsingleton.elim _ _
  exact Fin.ext h

theorem eq_lane (x : S16.Idx) : ∃ k : Fin 16, x = lane k := ⟨x 0, idx_ext rfl⟩

/-! ## A masked store at one place -/

section
variable {α β : Type}

theorem foldl_none {H : α → Prop} [DecidablePred H] (w : α → β) (y : β) (l : List α) (h : ∀ k ∈ l, ¬ H k) :
    l.foldl (fun y k => if H k then w k else y) y = y := by
  induction l generalizing y with
  | nil => rfl
  | cons a l ih =>
    rw [List.foldl_cons, if_neg (h a (by simp))]
    exact ih _ fun k hk => h k (by simp [hk])

theorem foldl_same {H : α → Prop} [DecidablePred H] (w : α → β) (y y₀ : β) (l : List α)
    (h : ∀ k ∈ l, H k → w k = y) (hy : (∃ k ∈ l, H k) ∨ y₀ = y) :
    l.foldl (fun y k => if H k then w k else y) y₀ = y := by
  induction l generalizing y₀ with
  | nil => simpa using hy
  | cons a l ih =>
    rw [List.foldl_cons]
    refine ih _ (fun k hk => h k (by simp [hk])) ?_
    by_cases ha : H a
    · right; rw [if_pos ha]; exact h a (by simp) ha
    · rw [if_neg ha]
      rcases hy with ⟨k, hk, hkH⟩ | hy
      · rcases List.mem_cons.1 hk with rfl | hk
        · exact absurd hkH ha
        · exact .inl ⟨k, hk, hkH⟩
      · exact .inr hy

theorem foldl_last {n : ℕ} {H : Fin n → Prop} [DecidablePred H] (w : Fin n → β) (y : β) (k : Fin n) (hk : H k)
    (h : ∀ k', k < k' → ¬ H k') : (List.finRange n).foldl (fun y k => if H k then w k else y) y = w k := by
  obtain ⟨s, t, e⟩ := List.append_of_mem (List.mem_finRange k)
  have hp := List.pairwise_lt_finRange n
  rw [e] at hp ⊢
  rw [List.foldl_append, List.foldl_cons, if_pos hk]
  refine foldl_none _ _ _ fun k' hk' => h k' ?_
  have := (List.pairwise_append.1 hp).2.1
  exact (List.pairwise_cons.1 this).1 k' hk'

end

/-- Lane `k` is set and names place `p`. -/
def Hits (idx : IVec S16 32) (m : IVec S16 1) (p : ℕ) (k : Fin 16) : Prop :=
  m (lane k) = 1 ∧ (idx (lane k)).toNat = p

instance (idx : IVec S16 32) (m : IVec S16 1) (p : ℕ) : DecidablePred (Hits idx m p) :=
  fun _ => inferInstanceAs (Decidable (_ ∧ _))

section
variable {n : ℕ} {e : EltTy} (f : Vec F (Sn n) e) (idx : IVec S16 32) (v : Vec F S16 e) (m : IVec S16 1)
  (h : ∀ a x, ((![idx] : Fin 1 → IVec S16 32) a x).toNat < (Sn n).size a) (j : (Sn n).Idx)

omit [FloatOps F] in
theorem idxAt_iff (k : Fin 16) : (∀ a, (j a).val = (idxAt (s := Sn n) ![idx] h (lane k) a).val) ↔
    (idx (lane k)).toNat = (j 0).val := by
  constructor
  · intro hj; exact (hj 0).symm
  · intro hj a
    obtain rfl : a = 0 := Subsingleton.elim _ _
    exact hj.symm

omit [FloatOps F] in
theorem foldl_at {α : Type} (step : Vec F (Sn n) e → α → Vec F (Sn n) e) (at_ : Elt F e → α → Elt F e)
    (hs : ∀ g k, step g k j = at_ (g j) k) (l : List α) : l.foldl step f j = l.foldl at_ (f j) := by
  induction l generalizing f with
  | nil => rfl
  | cons a l ih => rw [List.foldl_cons, List.foldl_cons, ih, hs]

theorem storeIdx_at : storeIdx (s := Sn n) (d := ![16]) f ![idx] v m false h j =
    (List.finRange 16).foldl (fun y k => if Hits idx m (j 0).val k then v (lane k) else y) (f j) := by
  unfold storeIdx
  refine foldl_at f j _ _ (fun g k => ?_) _
  by_cases hm : m (lane k) = 1
  · have hi := idxAt_iff idx h j k
    simp only [Hits, hm, true_and, if_true, hi]
    rfl
  · simp only [Hits, hm, false_and, if_false]

theorem storeIdx_add_at : storeIdx (s := Sn n) (d := ![16]) f ![idx] v m true h j =
    (List.finRange 16).foldl (fun y k => if Hits idx m (j 0).val k then Elt.idxAdd e y (v (lane k)) else y) (f j) := by
  unfold storeIdx
  refine foldl_at f j _ _ (fun g k => ?_) _
  by_cases hm : m (lane k) = 1
  · have hi := idxAt_iff idx h j k
    simp only [Hits, hm, true_and, if_true, hi]
    by_cases hj : (idx (lane k)).toNat = (j 0).val
    · have hij : idxAt (s := Sn n) ![idx] h (lane k) = j := idx_ext (by exact hj)
      simp only [hj, if_true, hij]
    · simp only [hj, if_false]
  · simp only [Hits, hm, false_and, if_false]

theorem store_none (hn : ∀ k, ¬ Hits idx m (j 0).val k) :
    storeIdx (s := Sn n) (d := ![16]) f ![idx] v m false h j = f j := by
  rw [storeIdx_at]; exact foldl_none _ _ _ fun k _ => hn k

theorem store_last (k : Fin 16) (hk : Hits idx m (j 0).val k) (hl : ∀ k', k < k' → ¬ Hits idx m (j 0).val k') :
    storeIdx (s := Sn n) (d := ![16]) f ![idx] v m false h j = v (lane k) := by
  rw [storeIdx_at]; exact foldl_last (fun k => v (lane k)) _ k hk hl

theorem store_same (y : Elt F e) (hy : ∀ k, Hits idx m (j 0).val k → v (lane k) = y)
    (hk : (∃ k, Hits idx m (j 0).val k) ∨ f j = y) :
    storeIdx (s := Sn n) (d := ![16]) f ![idx] v m false h j = y := by
  rw [storeIdx_at]
  exact foldl_same _ _ _ _ (fun k _ => hy k) (hk.imp_left fun ⟨k, hk⟩ => ⟨k, List.mem_finRange k, hk⟩)

end

/-! ## The half's mask and places -/

section
variable (h : Half) (v : IVec S16 32) (m : IVec S16 1)

/-- The position is in the half. -/
def Half.has (h : Half) (x : BitVec 32) : Prop := h.start ≤ x.toNat ∧ x.toNat < h.start + h.n

instance (h : Half) (x : BitVec 32) : Decidable (h.has x) := inferInstanceAs (Decidable (_ ∧ _))

theorem sge_slt (x : BitVec 32) (a b : ℕ) (hb : b ≤ 100000) (ha : a ≤ b) :
    IntOp.andi (IntOp.cmpi .sge x (BitVec.ofNat 32 a)) (IntOp.cmpi .slt x (BitVec.ofNat 32 b)) = 1 ↔
      a ≤ x.toNat ∧ x.toNat < b := by
  have h1 := WordArith.toInt_ofNat_small a (by omega)
  have h2 := WordArith.toInt_ofNat_small b (by omega)
  simp only [IntOp.cmpi, WordArith.andi_ofBool, WordArith.ofBool_eq_numeral_one_iff, Bool.and_eq_true,
    BitVec.sle, BitVec.slt, decide_eq_true_eq, h1, h2]
  have := x.isLt
  rw [BitVec.toInt_eq_toNat_cond]
  split <;> omega

theorem Half.holds_iff (x : S16.Idx) : h.holds v x = 1 ↔ h.has (v x) :=
  sge_slt (v x) h.start (h.start + h.n) h.fits (by omega)

theorem Half.n_pos : 0 < h.n := by
  have := h.pos
  simpa [Shape.numel] using this

theorem Half.place_of (x : S16.Idx) (hm : m x = 1) (hx : h.has (v x)) :
    (h.place m v x).toNat = (v x).toNat - h.start := by
  have h1 := h.fits
  have h2 := (v x).isLt
  obtain ⟨h3, h4⟩ := hx
  show (Scalar.select (m x) (IntOp.subi (v x) (BitVec.ofNat 32 h.start)) 0#32).toNat = _
  rw [Scalar.select, if_pos hm]
  show (v x - BitVec.ofNat 32 h.start).toNat = _
  rw [BitVec.toNat_sub, BitVec.toNat_ofNat]
  omega

theorem Half.fits_place (hm : ∀ x, m x = 1 → h.has (v x)) : Fits h.n (h.place m v) := by
  intro a x
  obtain rfl : a = 0 := Subsingleton.elim _ _
  show (h.place m v x).toNat < h.n
  by_cases h1 : m x = 1
  · have h2 := hm x h1
    rw [h.place_of v m x h1 h2]
    obtain ⟨h3, h4⟩ := h2
    omega
  · have : h.place m v x = 0#32 := if_neg h1
    rw [this]; exact h.n_pos

theorem Half.fits_holds : Fits h.n (h.place (h.holds v) v) :=
  h.fits_place v _ fun x hx => (h.holds_iff v x).1 hx

theorem Half.fits_low (hn : h.n ≤ low.n) : Fits low.n (h.place (h.holds v) v) := by
  intro a x
  obtain rfl : a = 0 := Subsingleton.elim _ _
  exact lt_of_lt_of_le (h.fits_holds v 0 x) hn

theorem Half.hits_iff (hm : ∀ x, m x = 1 → h.has (v x)) (p : ℕ) (k : Fin 16) :
    Hits (h.place m v) m p k ↔ m (lane k) = 1 ∧ (v (lane k)).toNat = h.start + p := by
  refine and_congr_right fun h1 => ?_
  have h2 := hm _ h1
  rw [h.place_of v m _ h1 h2]
  obtain ⟨h3, h4⟩ := h2
  omega

theorem Half.boosts_iff (b : FVec F S16 .f32) (x : S16.Idx) : h.boosts v b x = 1 ↔
    h.has (v x) ∧ FloatOps.cmpf .ogt (b x) (Scalar.ofBits .f32 0x00000000#32) = 1 := by
  rw [← h.holds_iff v x]
  show IntOp.andi (h.holds v x) _ = 1 ↔ _ ∧ _ = 1
  show IntOp.andi (h.holds v x) (FloatOps.cmpf .ogt (b x) (Scalar.ofBits .f32 0x00000000#32)) = 1 ↔ _
  generalize h.holds v x = p
  generalize FloatOps.cmpf .ogt (b x) (Scalar.ofBits .f32 0x00000000#32) = q
  revert p q; decide

end

/-! ## The tagging -/

/-- The tag of the `l`-th boosted id. -/
def tagAt (l : ℕ) : F .f32 := tag (F := F) (l / 16) (lane ⟨l % 16, Nat.mod_lt _ (by decide)⟩)

theorem tagAt_group (j : ℕ) (k : Fin 16) : tagAt (F := F) (16 * j + k.val) = tag (F := F) j (lane k) := by
  have h1 : (16 * j + k.val) / 16 = j := by omega
  have h2 : (16 * j + k.val) % 16 = k.val := by omega
  simp only [tagAt, h1, h2]

/-- The last of the 256 boosted ids that equals the `l`-th. -/
def lastOf (nf : ℕ → BitVec 32) (l : ℕ) : ℕ := Nat.findGreatest (fun l' => nf l' = nf l) 255

theorem lastOf_lt (nf : ℕ → BitVec 32) (l : ℕ) : lastOf nf l < 256 :=
  Nat.lt_succ_of_le (Nat.findGreatest_le _)

theorem lastOf_eq (nf : ℕ → BitVec 32) (l : ℕ) (hl : l < 256) : nf (lastOf nf l) = nf l :=
  Nat.findGreatest_spec (P := fun l' => nf l' = nf l) (by omega : l ≤ 255) rfl

theorem lastOf_greatest (nf : ℕ → BitVec 32) (l l' : ℕ) (h : lastOf nf l < l') (hl' : l' < 256) :
    nf l' ≠ nf l :=
  Nat.findGreatest_is_greatest (P := fun l' => nf l' = nf l) h (by omega)

/-- The boost the `l`-th boosted id earns in a half: 3 when its position is there and the tag that stayed at its
position compares equal to its own. -/
def Half.earnedAt (h : Half) (nf : ℕ → BitVec 32) (l : ℕ) : F .f32 :=
  if h.has (nf l) ∧ FloatOps.cmpf .oeq (tagAt (F := F) (lastOf nf l)) (tagAt (F := F) l) = 1 then
    Scalar.ofBits .f32 0x40400000#32 else Scalar.ofBits .f32 0x00000000#32

/-- The boost of the `l`-th boosted id. -/
def boostAt (nf : ℕ → BitVec 32) (l : ℕ) : F .f32 :=
  FloatOps.addf (low.earnedAt nf l) (high.earnedAt nf l)

section
variable (h : Half) (nf : ℕ → BitVec 32) (n : ℕ)

/-- After `m` groups: where one of their ids falls, the last such id's tag stands. -/
def Tagged (m : ℕ) (f : Vec F (Sn n) .f32) : Prop :=
  ∀ (j : (Sn n).Idx) (l : ℕ), l < 16 * m → h.has (nf l) → (nf l).toNat = h.start + (j 0).val →
    (∀ l', l' < 16 * m → l < l' → nf l' ≠ nf l) → f j = tagAt l

theorem tagged_zero (f : Vec F (Sn n) .f32) : Tagged h nf n 0 f := fun _ _ hl => absurd hl (by omega)

theorem tagged_step (m : ℕ) (f : Vec F (Sn n) .f32) (v : IVec S16 32) (hv : ∀ k : Fin 16, v (lane k) = nf (16 * m + k.val))
    (hw : ∀ a x, ((![h.place (h.holds v) v] : Fin 1 → IVec S16 32) a x).toNat < (Sn n).size a)
    (hf : Tagged h nf n m f) :
    Tagged h nf n (m + 1) (storeIdx (s := Sn n) (d := ![16]) f ![h.place (h.holds v) v] (tag m) (h.holds v) false hw) := by
  intro j l hl hh hlj hlast
  have hmv : ∀ x, h.holds v x = 1 → h.has (v x) := fun x => (h.holds_iff v x).1
  have hhit := fun k => h.hits_iff v (h.holds v) hmv (j 0).val k
  have key : ∀ k : Fin 16, l < 16 * m + k.val → ¬ Hits (h.place (h.holds v) v) (h.holds v) (j 0).val k := by
    intro k hk hit
    have h2 := ((hhit k).1 hit).2
    refine hlast (16 * m + k.val) (by omega) hk (BitVec.eq_of_toNat_eq ?_)
    rw [← hv k, h2, hlj]
  by_cases h1 : l < 16 * m
  · rw [store_none _ _ _ _ _ _ fun k => key k (by omega)]
    exact hf j l h1 hh hlj fun l' hl' => hlast l' (by omega)
  · obtain ⟨k, rfl⟩ : ∃ k : Fin 16, l = 16 * m + k.val := ⟨⟨l - 16 * m, by omega⟩, by simp; omega⟩
    rw [store_last _ _ _ _ _ _ k ((hhit k).2 ⟨(h.holds_iff v _).2 (by rw [hv]; exact hh), by rw [hv]; exact hlj⟩)
      fun k' hk' => key k' (by have : k.val < k'.val := hk'; omega)]
    exact (tagAt_group m k).symm

/-- What reading a group's tags back earns. -/
theorem earned_eq (f : Vec F (Sn n) .f32) (hf : Tagged h nf n 16 f) (j : Fin 16) (v : IVec S16 32)
    (hv : ∀ k : Fin 16, v (lane k) = nf (16 * j.val + k.val))
    (hw : ∀ a x, ((![h.place (h.holds v) v] : Fin 1 → IVec S16 32) a x).toNat < (Sn n).size a) (k : Fin 16) :
    earned (h.holds v) (loadIdx (s := Sn n) f ![h.place (h.holds v) v] hw) (tag j.val) (lane k) =
      h.earnedAt nf (16 * j.val + k.val) := by
  set l := 16 * j.val + k.val with hl
  show Scalar.select (IntOp.andi (h.holds v (lane k))
    (FloatOps.cmpf .oeq (f (idxAt ![h.place (h.holds v) v] hw (lane k))) (tag j.val (lane k)))) _ _ = _
  have hi := h.holds_iff v (lane k)
  rw [hv k, ← hl] at hi
  rw [← tagAt_group j.val k, ← hl]
  by_cases hh : h.has (nf l)
  · have hl256 : l < 256 := by omega
    have h1 := hi.2 hh
    have hp := h.place_of v (h.holds v) (lane k) h1 (by rw [hv k]; exact hh)
    have e := lastOf_eq nf l hl256
    have hfv : f (idxAt ![h.place (h.holds v) v] hw (lane k)) = tagAt (lastOf nf l) := by
      refine hf _ _ (lastOf_lt nf l) (by rw [e]; exact hh) ?_ ?_
      · show _ = h.start + (h.place (h.holds v) v (lane k)).toNat
        rw [hp, hv k, ← hl, e]; obtain ⟨h3, h4⟩ := hh; omega
      · intro l' hl' hlt
        rw [e]; exact lastOf_greatest nf l l' hlt hl'
    rw [hfv, h1]
    unfold Half.earnedAt
    simp only [hh, true_and, Scalar.select]
    congr 1
    generalize FloatOps.cmpf .oeq (tagAt (F := F) (lastOf nf l)) (tagAt l) = q
    revert q; decide
  · have h1 : ¬ h.holds v (lane k) = 1 := fun h1 => hh (hi.1 h1)
    unfold Half.earnedAt
    rw [if_neg (fun hc => hh hc.1)]
    refine if_neg ?_
    revert h1
    generalize h.holds v (lane k) = p
    generalize FloatOps.cmpf .oeq _ (tagAt (F := F) l) = q
    revert p q; decide

end

/-! ## A chunk's loops -/

section
variable (h : Half) (ids nf : ℕ → BitVec 32) (row : Vec F (Sn h.n) .f32)

/-- After `m` groups the gathered values of those ids that fall in the half are the row's there. -/
def Gathered (m : ℕ) (g : Vec F S512 .f32) : Prop :=
  ∀ (q : S512.Idx) (j : (Sn h.n).Idx), (q 0).val < 16 * m → (ids (q 0).val).toNat = h.start + (j 0).val →
    g q = row j

theorem gathered_lane (m : ℕ) (v : IVec S16 32) (hv : ∀ k : Fin 16, v (lane k) = ids (16 * m + k.val))
    (hw : ∀ a x, ((![h.place (h.holds v) v] : Fin 1 → IVec S16 32) a x).toNat < (Sn h.n).size a)
    (k : Fin 16) (j : (Sn h.n).Idx) (hj : (ids (16 * m + k.val)).toNat = h.start + (j 0).val) :
    loadIdx (s := Sn h.n) row ![h.place (h.holds v) v] hw (lane k) = row j := by
  show row (idxAt ![h.place (h.holds v) v] hw (lane k)) = row j
  congr 1
  refine idx_ext ?_
  show (h.place (h.holds v) v (lane k)).toNat = _
  have hh : h.has (v (lane k)) := by
    have : (j 0).val < h.n := (j 0).isLt
    rw [hv k]; constructor <;> omega
  rw [h.place_of v _ _ ((h.holds_iff v _).2 hh) hh, hv k, hj]; omega

/-- What stands before anything is put back. -/
abbrev ninf : F .f32 := Scalar.ofBits .f32 0xFF800000#32

/-- After `m` groups: the row's value where one of their ids falls, minus infinity elsewhere. -/
def PutBack (m : ℕ) (f : Vec F (Sn h.n) .f32) : Prop :=
  ∀ j : (Sn h.n).Idx, f j = if ∃ l, l < 16 * m ∧ (ids l).toNat = h.start + (j 0).val then row j else ninf

theorem putBack_zero (f : Vec F (Sn h.n) .f32) (hf : ∀ j, f j = ninf) : PutBack h ids row 0 f := by
  intro j
  rw [if_neg (by rintro ⟨l, hl, _⟩; omega), hf]

theorem putBack_step (m : ℕ) (f : Vec F (Sn h.n) .f32) (v : IVec S16 32) (g : Vec F S16 .f32)
    (hv : ∀ k : Fin 16, v (lane k) = ids (16 * m + k.val))
    (hg : ∀ (k : Fin 16) (j : (Sn h.n).Idx), (ids (16 * m + k.val)).toNat = h.start + (j 0).val → g (lane k) = row j)
    (hw : ∀ a x, ((![h.place (h.holds v) v] : Fin 1 → IVec S16 32) a x).toNat < (Sn h.n).size a)
    (hf : PutBack h ids row m f) :
    PutBack h ids row (m + 1)
      (storeIdx (s := Sn h.n) (d := ![16]) f ![h.place (h.holds v) v] g (h.holds v) false hw) := by
  intro j
  have hmv : ∀ x, h.holds v x = 1 → h.has (v x) := fun x => (h.holds_iff v x).1
  have hhit := fun k => h.hits_iff v (h.holds v) hmv (j 0).val k
  have hjn : (j 0).val < h.n := (j 0).isLt
  have hhas : ∀ k, (ids (16 * m + k.val)).toNat = h.start + (j 0).val →
      Hits (h.place (h.holds v) v) (h.holds v) (j 0).val k := fun k hk =>
    (hhit k).2 ⟨(h.holds_iff v _).2 (by rw [hv k]; constructor <;> omega), by rw [hv k]; exact hk⟩
  by_cases hex : ∃ k, Hits (h.place (h.holds v) v) (h.holds v) (j 0).val k
  · obtain ⟨k, hk⟩ := hex
    have hk2 := ((hhit k).1 hk).2
    rw [hv k] at hk2
    rw [if_pos ⟨16 * m + k.val, by omega, hk2⟩]
    refine store_same _ _ _ _ _ _ _ (fun k' hk' => ?_) (.inl ⟨k, hk⟩)
    have := ((hhit k').1 hk').2
    rw [hv k'] at this
    exact hg k' j this
  · rw [store_none _ _ _ _ _ _ fun k hk => hex ⟨k, hk⟩, hf j]
    congr 1
    refine propext ⟨fun ⟨l, hl, e⟩ => ⟨l, by omega, e⟩, fun ⟨l, hl, e⟩ => ?_⟩
    by_cases hlm : l < 16 * m
    · exact ⟨l, hlm, e⟩
    · obtain ⟨k, rfl⟩ : ∃ k : Fin 16, l = 16 * m + k.val := ⟨⟨l - 16 * m, by omega⟩, by simp; omega⟩
      exact absurd ⟨k, hhas k e⟩ hex

/-- The `l`-th boosted id raises position `p`. -/
def Raises (nf : ℕ → BitVec 32) (b : ℕ → F .f32) (p l : ℕ) : Prop :=
  (nf l).toNat = p ∧ FloatOps.cmpf .ogt (b l) (Scalar.ofBits .f32 0x00000000#32) = 1

open Classical in
/-- A value raised by the first `m` boosted ids in turn. -/
def raised (nf : ℕ → BitVec 32) (b : ℕ → F .f32) (p m : ℕ) (y : F .f32) : F .f32 :=
  (List.range m).foldl (fun y l => if Raises nf b p l then FloatOps.idxAddf y (b l) else y) y

/-- After `m` groups: each place raised by their ids. -/
def Boosted (b : ℕ → F .f32) (base : Vec F (Sn h.n) .f32) (m : ℕ) (f : Vec F (Sn h.n) .f32) : Prop :=
  ∀ j : (Sn h.n).Idx, f j = raised nf b (h.start + (j 0).val) (16 * m) (base j)

theorem boosted_zero (b : ℕ → F .f32) (base : Vec F (Sn h.n) .f32) : Boosted h nf b base 0 base := fun _ => rfl

theorem boosted_step (b : ℕ → F .f32) (base : Vec F (Sn h.n) .f32) (m : ℕ) (f : Vec F (Sn h.n) .f32)
    (v : IVec S16 32) (bv : Vec F S16 .f32)
    (hv : ∀ k : Fin 16, v (lane k) = nf (16 * m + k.val)) (hb : ∀ k : Fin 16, bv (lane k) = b (16 * m + k.val))
    (hw : ∀ a x, ((![h.place (h.boosts v bv) v] : Fin 1 → IVec S16 32) a x).toNat < (Sn h.n).size a)
    (hf : Boosted h nf b base m f) :
    Boosted h nf b base (m + 1)
      (storeIdx (s := Sn h.n) (d := ![16]) f ![h.place (h.boosts v bv) v] bv (h.boosts v bv) true hw) := by
  intro j
  classical
  have hjn : (j 0).val < h.n := (j 0).isLt
  have hmv : ∀ x, h.boosts v bv x = 1 → h.has (v x) := fun x hx => ((h.boosts_iff v bv x).1 hx).1
  have hhit : ∀ k, Hits (h.place (h.boosts v bv) v) (h.boosts v bv) (j 0).val k ↔
      Raises nf b (h.start + (j 0).val) (16 * m + k.val) := by
    intro k
    rw [h.hits_iff v (h.boosts v bv) hmv (j 0).val k, h.boosts_iff, hv k, hb k]
    unfold Raises Half.has
    constructor
    · rintro ⟨⟨_, h2⟩, h3⟩; exact ⟨h3, h2⟩
    · rintro ⟨h1, h2⟩; exact ⟨⟨⟨by omega, by omega⟩, h2⟩, h1⟩
  have e : List.range (16 * (m + 1)) = List.range (16 * m) ++ (List.finRange 16).map (fun k => 16 * m + k.val) := by
    rw [show 16 * (m + 1) = 16 * m + 16 by omega, List.range_add]
    congr 1
  rw [storeIdx_add_at, hf j]
  unfold raised
  rw [e, List.foldl_append, List.foldl_map]
  congr 1
  funext y k
  rw [hb k]
  by_cases hr : Raises nf b (h.start + (j 0).val) (16 * m + k.val)
  · rw [if_pos hr, if_pos ((hhit k).2 hr)]; rfl
  · rw [if_neg hr, if_neg fun hc => hr ((hhit k).1 hc)]

end

end Cert.Proof
-- ==== Proof.Held.lean ====
module

public import proofs.«01_k».proof.Defs
public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

/-! # A tile's buffers, held by their values

The launch theorem's vocabulary, the thread that runs a tile, and `Held`: a buffer of the tile held outright with
given values. The loads and the stores of the kernel are stated for it once. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The rounds of the launch's handshakes, and beside them the counters of the tiles' own transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-- The SparseCore and the tile of a place in the grid, and the thread that runs there. -/
abbrev coreOf (i : grid0.Coords) : Fin τ.nSC := (i 0).castLE hcore0
abbrev tileOf (i : grid0.Coords) : Fin τ.nSub := (i 1).castLE hsub0
abbrev thr (d : Dev nD) (i : grid0.Coords) : Thread nD τ := V d (coreOf i) (tileOf i)

variable (d : Dev nD) (i : grid0.Coords)

/-- The weakest precondition of a tile's program. -/
abbrev twp {α : Type} (p : VProg F i α) (Q : α → sProp 𝕄) : sProp 𝕄 :=
  wp frame (wpE (defs₀ (F := F)) 𝒱₀ (thr d i) none) Set.univ p Q

/-- The buffer `M` of the tile, held outright, with values `v`. -/
def Held {s : Shape} {e : EltTy} (M : Memref sig .scVector .vmem s e) (v : Vec F s e) : sProp 𝕄 :=
  iprop(∃ f, ⌜M.view.read (Elt F) f = v⌝ ∗ (M.view.loc (thr d i) ↦[M.view.set]{fullShare} f))

section Rules

variable {s : Shape} {e : EltTy} {M : Memref sig .scVector .vmem s e} {v : Vec F s e} {α : Type}

/-- A load of a rectangle. -/
theorem held_load {r : Rect s} {hl : M.view.LoadsAt r.toLoadRect} {k : (r.shape.Idx → Elt F e) → VProg F i α}
    {Q : α → sProp 𝕄} :
    Held d i M v ⊢ iprop((Held d i M v -∗ twp d i (k fun x => v (r.emb x)) Q)
      -∗ twp d i (Prog.lift (.load M r.toLoadRect hl) >>= k) Q) := by
  unfold Held
  iintro ⟨%f, %hf, H⟩ Hk
  iapply (wp_load (defs := defs₀ (F := F)) 𝒱₀ (thr d i) none Set.univ (Q := Q) (m := M) (r := r.toLoadRect) (hl := hl) (k := k)
    (View.setOn_subset_set _ _)) $$ H
  iintro H
  rw [show M.view.readAt (Elt F) r.toLoadRect f = fun x => v (r.emb x) from by subst hf; rfl]
  iapply Hk
  iexists f
  isplitr
  · ipureintro; exact hf
  · iexact H

/-- A store of a rectangle: the rectangle's values are the stored ones, the others are as before. -/
theorem held_store {r : Rect s} {w : r.shape.Idx → Elt F e} {hx : (M.access r).Stores Finset.univ}
    {hm : Finset.univ = Finset.univ ∨ ∀ a, r.stride a = 1} {k : PUnit → VProg F i α}
    {Q : α → sProp 𝕄} :
    Held d i M v ⊢ iprop((∀ v', ⌜(∀ x, v' (r.emb x) = w x) ∧ ∀ j, j ∉ r.set → v' j = v j⌝ -∗ Held d i M v' -∗ twp d i (k ⟨⟩) Q)
      -∗ twp d i (Prog.lift (.store M r w Finset.univ hx hm) >>= k) Q) := by
  unfold Held
  iintro ⟨%f, %hf, H⟩ Hk
  iapply (wp_store (defs := defs₀ (F := F)) 𝒱₀ (thr d i) none Set.univ (Q := Q) (m := M) (r := r) (w := w) (Mk := Finset.univ)
    (hx := hx) (hm := hm) (k := k) (S := M.view.set) (f := f) (by rw [View.setOn_univ]; exact View.set_slice_subset _ _)) $$ H
  iintro H
  iapply Hk $$ %(M.view.read (Elt F) ((M.access r).write (Elt F) f w Finset.univ)) []
  · ipureintro
    refine ⟨fun x => View.read_slice_write_emb r f w (Finset.mem_univ x), fun j hj => ?_⟩
    rw [← hf]
    exact View.read_slice_write_of_not_mem r f w _ (by rwa [Rect.map_emb_univ])
  · iexists _
    isplitr
    · ipureintro; rfl
    · iexact H

/-- The kernel's own check, which holds. -/
theorem twp_assume {P : Prop} {dec : Decidable P} {k : PLift P → VProg F i α} {Q : α → sProp 𝕄} (h : P) :
    twp d i (k ⟨h⟩) Q ⊢ twp d i (Prog.lift (.assume P dec) >>= k) Q :=
  Entails.of_eq (wp_assume_of _ _ _ _ h).symm

theorem set_access_whole : (M.access (.whole s)).set = M.view.set := by
  show (M.view.slice (.whole s)).set = _
  rw [View.set_slice, Rect.set_whole]; rfl

theorem read_access_whole (f : Buf (Elt F) (M.view.loc (thr d i))) :
    (M.access (.whole s)).read (Elt F) f = M.view.read (Elt F) f := by
  funext x
  show M.view.read (Elt F) f ((Rect.whole s).emb x) = _
  rw [Rect.emb_whole_apply]

/-- An indexed load of the whole buffer. -/
theorem held_loadIdx {t : Shape} {idxs : Fin s.rank → IVec t 32} {h : ∀ a x, (idxs a x).toNat < s.size a}
    {hl : M.view.Loads} {k : Vec F t e → VProg F i α} {Q : α → sProp 𝕄} :
    Held d i M v ⊢ iprop((Held d i M v -∗ twp d i (k (loadIdx v idxs h)) Q)
      -∗ twp d i (SparseCore.vectorLoadIdx M idxs h hl >>= k) Q) := by
  unfold Held
  iintro ⟨%f, %hf, H⟩ Hk
  iapply (SparseCore.wp_vectorLoadIdx (defs := defs₀ (F := F)) 𝒱₀ (thr d i) none Set.univ (Q := Q) (base := M) (idxs := idxs)
    (h := h) (hl := hl) (k := k) (S := M.view.set) (q := fullShare) (f := f) (by rw [set_access_whole])) $$ H
  iintro H
  rw [read_access_whole d i, hf]
  iapply Hk
  iexists f
  isplitr
  · ipureintro; exact hf
  · iexact H

/-- An indexed, masked store into the whole buffer. -/
theorem held_storeIdx {z : Fin 1 → ℕ} {idxs : Fin s.rank → IVec ⟨1, z⟩ 32} {w : Vec F ⟨1, z⟩ e} {mask : IVec ⟨1, z⟩ 1}
    {add : Bool} {h : ∀ a x, (idxs a x).toNat < s.size a} {hs : (M.access (.whole s)).Stores Finset.univ}
    {k : PUnit → VProg F i α} {Q : α → sProp 𝕄} :
    Held d i M v ⊢ iprop((Held d i M (storeIdx v idxs w mask add h) -∗ twp d i (k ⟨⟩) Q)
      -∗ twp d i (SparseCore.vectorStoreIdx M idxs w mask add h hs >>= k) Q) := by
  unfold Held
  iintro ⟨%f, %hf, H⟩ Hk
  iapply (SparseCore.wp_vectorStoreIdx (defs := defs₀ (F := F)) 𝒱₀ (thr d i) none Set.univ (Q := Q) (base := M) (idxs := idxs)
    (v := w) (mask := mask) (add := add) (h := h) (hs := hs) (k := k) (f := f)) $$ [H]
  · rw [set_access_whole]; iexact H
  rw [set_access_whole, read_access_whole d i, hf]
  iintro H
  iapply Hk
  iexists ((M.access (.whole s)).write (Elt F) f (storeIdx v idxs w mask add h) Finset.univ)
  isplitr
  · ipureintro
    exact (read_access_whole d i _).symm.trans (View.read_write_univ _ _)
  · iexact H

end Rules

/-! ## Groups of sixteen -/

theorem emb_group {n m : ℕ} {o : Fin 1 → ℕ} (ho : ∀ a, o a + S16.size a ≤ (Sn n).size a) (he : o = ![16 * m]) (k : Fin 16) :
    ((Rect.unit (s := Sn n) o S16.size ho).emb (lane k) 0).val = 16 * m + k.val := by
  subst he
  rw [Rect.emb_apply]
  show 16 * m + 1 * k.val = _
  omega

theorem mem_group {n m : ℕ} {o : Fin 1 → ℕ} (ho : ∀ a, o a + S16.size a ≤ (Sn n).size a) (he : o = ![16 * m]) (j : (Sn n).Idx) :
    j ∈ (Rect.unit (s := Sn n) o S16.size ho).set ↔ 16 * m ≤ (j 0).val ∧ (j 0).val < 16 * m + 16 := by
  subst he
  rw [Rect.mem_set_unit]
  constructor
  · intro h; exact h 0
  · intro h a
    obtain rfl : a = 0 := Subsingleton.elim _ _
    exact h

section Groups

variable {n m : ℕ} {e : EltTy} {M : Memref sig .scVector .vmem (Sn n) e} {v : Vec F (Sn n) e} {α : Type}
  {o : Fin 1 → ℕ} {ho : ∀ a, o a + S16.size a ≤ (Sn n).size a}

/-- A load of a group. -/
theorem held_loadGroup (he : o = ![16 * m]) {hl : M.view.LoadsAt (Rect.unit (s := Sn n) o S16.size ho).toLoadRect}
    {k : (S16.Idx → Elt F e) → VProg F i α} {Q : α → sProp 𝕄} :
    Held d i M v ⊢ iprop((∀ x, ⌜∀ (k : Fin 16) (j : (Sn n).Idx), (j 0).val = 16 * m + k.val → x (lane k) = v j⌝ -∗
        Held d i M v -∗ twp d i (k x) Q)
      -∗ twp d i (Prog.lift (.load M (Rect.unit (s := Sn n) o S16.size ho).toLoadRect hl) >>= k) Q) := by
  iintro H Hk
  iapply (held_load d i (Q := Q) (r := Rect.unit (s := Sn n) o S16.size ho) (hl := hl) (k := k)) $$ H
  iintro H
  iapply Hk $$ %(fun x => v ((Rect.unit (s := Sn n) o S16.size ho).emb x)) [] H
  ipureintro
  intro k j hj
  exact congrArg v (idx_ext ((emb_group ho he k).trans hj.symm))

/-- A store of a group. -/
theorem held_storeGroup (he : o = ![16 * m]) {w : S16.Idx → Elt F e}
    {hx : (M.access (Rect.unit (s := Sn n) o S16.size ho)).Stores Finset.univ}
    {hm : Finset.univ = Finset.univ ∨ ∀ a, (Rect.unit (s := Sn n) o S16.size ho).stride a = 1} {k : PUnit → VProg F i α}
    {Q : α → sProp 𝕄} :
    Held d i M v ⊢ iprop((∀ v', ⌜(∀ (k : Fin 16) (j : (Sn n).Idx), (j 0).val = 16 * m + k.val → v' j = w (lane k)) ∧
        ∀ j : (Sn n).Idx, (j 0).val < 16 * m ∨ 16 * m + 16 ≤ (j 0).val → v' j = v j⌝ -∗
        Held d i M v' -∗ twp d i (k ⟨⟩) Q)
      -∗ twp d i (Prog.lift (.store M (Rect.unit (s := Sn n) o S16.size ho) w Finset.univ hx hm) >>= k) Q) := by
  iintro H Hk
  iapply (held_store d i (Q := Q) (r := Rect.unit (s := Sn n) o S16.size ho) (w := w) (hx := hx) (hm := hm) (k := k)) $$ H
  iintro %v' %hv H
  iapply Hk $$ %v' [] H
  ipureintro
  refine ⟨fun k j hj => ?_, fun j hj => hv.2 j ?_⟩
  · rw [← hv.1 (lane k)]
    exact congrArg v' (idx_ext (hj.trans (emb_group ho he k).symm))
  · rw [mem_group ho he]; omega

end Groups

/-- A load of a group of a row of the ids. -/
theorem held_loadIds {m : ℕ} {r : Fin 2} {M : Memref sig .scVector .vmem S2x512 .i32} {v : Vec F S2x512 .i32} {α : Type}
    {o : Fin 2 → ℕ} {ho : ∀ a, o a + S1x16.size a ≤ S2x512.size a} (he : o = ![r.val, 16 * m])
    {hl : M.view.LoadsAt (Rect.unit (s := S2x512) o S1x16.size ho).toLoadRect}
    {k : (S1x16.Idx → Elt F .i32) → VProg F i α} {Q : α → sProp 𝕄} :
    Held d i M v ⊢ iprop((∀ x, ⌜∀ (k : Fin 16) (j : S2x512.Idx), (j 0).val = r.val → (j 1).val = 16 * m + k.val →
          (shapeCast S16 x shapeCasts_S1x16_S16 : IVec S16 32) (lane k) = v j⌝ -∗
        Held d i M v -∗ twp d i (k x) Q)
      -∗ twp d i (Prog.lift (.load M (Rect.unit (s := S2x512) o S1x16.size ho).toLoadRect hl) >>= k) Q) := by
  iintro H Hk
  iapply (held_load d i (Q := Q) (r := Rect.unit (s := S2x512) o S1x16.size ho) (hl := hl) (k := k)) $$ H
  iintro H
  iapply Hk $$ %(fun x => v ((Rect.unit (s := S2x512) o S1x16.size ho).emb x)) [] H
  ipureintro
  intro k j h0 h1
  refine (shapeCast_dropUnit_apply ![16] _ shapeCasts_S1x16_S16 (lane k)).trans (congrArg v ?_)
  subst he
  funext a
  refine Fin.ext ?_
  rw [Rect.emb_apply]
  match a with
  | 0 => rw [h0]; rfl
  | 1 =>
    rw [h1]
    show 16 * m + 1 * k.val = _
    omega

/-! ## Steps in a row -/

theorem twp_end {α : Type} (p : VProg F i α) (Q : α → sProp 𝕄) : twp d i (p >>= pure) Q ⊢ twp d i p Q := by
  rw [bind_pure]

theorem twp_pure {α : Type} (a : α) (Q : α → sProp 𝕄) : Q a ⊢ twp d i (pure a : VProg F i α) Q := by
  show _ ⊢ twp d i (.ret a) Q
  unfold twp
  rw [wp_ret]
  exact fupd_intro

/-- A part already run, at the head of a program. -/
theorem twp_then {α β : Type} {A : sProp 𝕄} {p : VProg F i α} {B : α → sProp 𝕄} (hp : A ⊢ twp d i p B) {k : α → VProg F i β}
    {Q : β → sProp 𝕄} : A ⊢ iprop((∀ a, B a -∗ twp d i (k a) Q) -∗ twp d i (p >>= k) Q) := by
  iintro HA Hk
  unfold twp
  rw [wp_bind]
  ihave Hp := hp $$ HA
  iapply (wp_wand frame (wpE (defs₀ (F := F)) 𝒱₀ (thr d i) none) Set.univ) $$ Hp Hk

theorem steps_run (f : Fin 16 → VProg F i PUnit) (I : ℕ → sProp 𝕄)
    (hf : ∀ j : Fin 16, I j.val ⊢ twp d i (f j) fun _ => I (j.val + 1)) :
    ∀ (n a b : ℕ) (h : a + n ≤ 16), b = a + n → I a ⊢ twp d i (steps f n a h) fun _ => I b
  | 0, a, b, h, hb => by
    rw [show b = a by omega]
    unfold steps
    exact twp_pure d i PUnit.unit fun _ => I a
  | n + 1, a, b, h, hb => by
    show _ ⊢ twp d i ((f ⟨a, by omega⟩) >>= fun _ => steps f n (a + 1) (by omega)) _
    unfold twp
    rw [wp_bind]
    exact (hf ⟨a, by omega⟩).trans (wp_mono frame _ _ fun _ => steps_run f I hf n (a + 1) b (by omega) (by omega))

end Cert.Proof
-- ==== Proof.Trips.lean ====
module

public import proofs.«01_k».proof.Proof.Held

@[expose] public section

/-! # The tagging and the chunks, run

Each step and each trip takes its invariant to the next; then the four passes of the tagging, and the four loops of a
chunk. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A vector by its values at the naturals. -/
abbrev seq {α : Type} {n : ℕ} (f : ℕ → α) : (Sn n).Idx → α := fun j => f (j 0).val

/-- The two rows of ids by their values at the naturals. -/
abbrev table (ids : ℕ → ℕ → BitVec 32) : S2x512.Idx → BitVec 32 := fun j => ids (j 0).val (j 1).val

variable (d : Dev nD) (i : grid0.Coords)

/-! ## The tagging -/

section Tagging

variable (arg6 : Memref sig .scVector .vmem S50048 .f32)
  (arg10 : Memref sig .scVector .vmem S256 .i32) (arg11 : Memref sig .scVector .vmem S256 .f32) (h : Half)
  (hn : h.n ≤ low.n) (nf : ℕ → BitVec 32)

/-- The ids of a group, loaded. -/
theorem seq_lane {n : ℕ} {α : Type} {f : ℕ → α} {x : S16.Idx → α} {m : ℕ} (hm : 16 * m + 16 ≤ n)
    (hx : ∀ (k : Fin 16) (j : (Sn n).Idx), (j 0).val = 16 * m + k.val → x (lane k) = seq f j) (k : Fin 16) :
    x (lane k) = f (16 * m + k.val) :=
  hx k (fun a => ⟨16 * m + k.val, by
    have := k.isLt
    obtain rfl : a = 0 := Subsingleton.elim _ _
    show _ < n
    omega⟩) rfl

/-- While the tags are stored: those of the first `m` groups stand. -/
def tagInv (m : ℕ) : sProp 𝕄 :=
  iprop(Held (F := F) d i arg10 (seq nf) ∗ ∃ f, ⌜Tagged h nf low.n m f⌝ ∗ Held d i arg6 f)

include hn in
theorem tagStep_run (j : Fin 16) :
    tagInv d i arg6 arg10 h nf j.val ⊢ twp (F := F) d i (tagStep i arg6 arg10 h j) fun _ => tagInv d i arg6 arg10 h nf (j.val + 1) := by
  unfold tagInv tagStep
  iintro ⟨H10, %f, %hf, H6⟩
  iapply (held_loadGroup (n := 256) d i (m := j.val) rfl) $$ H10
  iintro %v %hv H10
  have hv' := seq_lane (n := 256) (by omega) hv
  iapply (twp_assume d i (h.fits_low v hn))
  iapply twp_end
  iapply (held_storeIdx d i) $$ H6
  iintro H6
  iapply twp_pure
  isplitl [H10]; · iexact H10
  iexists _
  isplitr
  rotate_left
  · iexact H6
  · ipureintro; exact tagged_step h nf low.n j.val f v hv' _ hf

/-- While the tags are read back: the boosts of the first `m` groups are the new ones. -/
def backInv (f : Vec F S50048 .f32) (old : Vec F S256 .f32) (new : ℕ → F .f32) (m : ℕ) : sProp 𝕄 :=
  iprop(Held (F := F) d i arg10 (seq nf) ∗ Held d i arg6 f ∗
    ∃ b : Vec F S256 .f32, ⌜∀ j : S256.Idx, b j = if (j 0).val < 16 * m then new (j 0).val else old j⌝ ∗ Held d i arg11 b)

/-- A group's new boosts, beside the earlier ones. -/
theorem back_step {j : Fin 16} {old b b' : Vec F S256 .f32} {new : ℕ → F .f32} {w : Vec F S16 .f32}
    (hb : ∀ q : S256.Idx, b q = if (q 0).val < 16 * j.val then new (q 0).val else old q)
    (hw : ∀ k : Fin 16, w (lane k) = new (16 * j.val + k.val))
    (hb' : (∀ (k : Fin 16) (q : S256.Idx), (q 0).val = 16 * j.val + k.val → b' q = w (lane k)) ∧
        ∀ q : S256.Idx, (q 0).val < 16 * j.val ∨ 16 * j.val + 16 ≤ (q 0).val → b' q = b q) (q : S256.Idx) :
    b' q = if (q 0).val < 16 * (j.val + 1) then new (q 0).val else old q := by
  by_cases h1 : (q 0).val < 16 * j.val
  · rw [hb'.2 q (.inl h1), hb q, if_pos h1, if_pos (by omega)]
  · by_cases h2 : (q 0).val < 16 * (j.val + 1)
    · have h3 : (q 0).val = 16 * j.val + (⟨(q 0).val - 16 * j.val, by omega⟩ : Fin 16).val := by
        show _ = 16 * j.val + ((q 0).val - 16 * j.val)
        omega
      rw [hb'.1 _ q h3, hw, if_pos h2, ← h3]
    · rw [hb'.2 q (.inr (by omega)), hb q, if_neg h1, if_neg h2]

include hn in
theorem backSet_run (f : Vec F S50048 .f32) (hf : Tagged h nf low.n 16 f) (old : Vec F S256 .f32) (j : Fin 16) :
    backInv d i arg6 arg10 arg11 nf f old (h.earnedAt nf) j.val ⊢
      twp (F := F) d i (backSet i arg6 arg10 arg11 h j) fun _ => backInv d i arg6 arg10 arg11 nf f old (h.earnedAt nf) (j.val + 1) := by
  unfold backInv backSet
  iintro ⟨H10, H6, %b, %hb, H11⟩
  iapply (held_loadGroup (n := 256) d i (m := j.val) rfl) $$ H10
  iintro %v %hv H10
  have hv' := seq_lane (n := 256) (by omega) hv
  iapply (twp_assume d i (h.fits_low v hn))
  iapply (held_loadIdx d i) $$ H6
  iintro H6
  iapply (held_loadGroup (n := 256) d i (m := j.val) rfl) $$ H11
  iintro %x %hx H11
  iapply twp_end
  iapply (held_storeGroup (n := 256) d i (m := j.val) rfl) $$ H11
  iintro %b' %hb' H11
  iapply twp_pure
  isplitl [H10]; · iexact H10
  isplitl [H6]; · iexact H6
  iexists b'
  isplitr
  · ipureintro
    exact back_step hb (earned_eq h nf low.n f hf j v hv' _) hb'
  · iexact H11

include hn in
theorem backAdd_run (f : Vec F S50048 .f32) (hf : Tagged h nf low.n 16 f) (o : ℕ → F .f32) (j : Fin 16) :
    backInv d i arg6 arg10 arg11 nf f (seq o) (fun l => FloatOps.addf (o l) (h.earnedAt nf l)) j.val ⊢
      twp (F := F) d i (backAdd i arg6 arg10 arg11 h j) fun _ =>
        backInv d i arg6 arg10 arg11 nf f (seq o) (fun l => FloatOps.addf (o l) (h.earnedAt nf l)) (j.val + 1) := by
  unfold backInv backAdd
  iintro ⟨H10, H6, %b, %hb, H11⟩
  iapply (held_loadGroup (n := 256) d i (m := j.val) rfl) $$ H10
  iintro %v %hv H10
  have hv' := seq_lane (n := 256) (by omega) hv
  iapply (twp_assume d i (h.fits_low v hn))
  iapply (held_loadIdx d i) $$ H6
  iintro H6
  iapply (held_loadGroup (n := 256) d i (m := j.val) rfl) $$ H11
  iintro %x %hx H11
  iapply (held_loadGroup (n := 256) d i (m := j.val) rfl) $$ H11
  iintro %y %hy H11
  iapply twp_end
  iapply (held_storeGroup (n := 256) d i (m := j.val) rfl) $$ H11
  iintro %b' %hb' H11
  iapply twp_pure
  isplitl [H10]; · iexact H10
  isplitl [H6]; · iexact H6
  iexists b'
  isplitr
  · ipureintro
    refine back_step (new := fun l => FloatOps.addf (o l) (h.earnedAt nf l)) hb (fun k => ?_) hb'
    show FloatOps.addf (x (lane k)) _ = FloatOps.addf (o (16 * j.val + k.val)) (h.earnedAt nf (16 * j.val + k.val))
    have hk := k.isLt
    refine congrArg₂ FloatOps.addf ?_ (earned_eq h nf low.n f hf j v hv' _ k)
    rw [hx k (fun a => ⟨16 * j.val + k.val, by
      obtain rfl : a = 0 := Subsingleton.elim _ _
      show _ < 256
      omega⟩) rfl, hb, if_neg (by show ¬ (16 * j.val + k.val < 16 * j.val); omega)]
  · iexact H11

/-- The whole tagging: the boosts are known. -/
theorem tagging_run (g6 : Vec F S50048 .f32) (g11 : Vec F S256 .f32) :
    iprop(Held (F := F) d i arg10 (seq nf) ∗ Held d i arg6 g6 ∗ Held d i arg11 g11) ⊢
      twp (F := F) d i (tagging i arg6 arg10 arg11) fun _ =>
        iprop(Held (F := F) d i arg10 (seq nf) ∗ (∃ f, Held d i arg6 f) ∗ Held d i arg11 (seq (boostAt nf))) := by
  have e1 := steps_run (F := F) d i _ _ (tagStep_run d i arg6 arg10 low le_rfl nf) 16 0 16 (by decide) rfl
  have e3 := steps_run (F := F) d i _ _ (tagStep_run d i arg6 arg10 high (by decide) nf) 16 0 16 (by decide) rfl
  unfold tagging
  iintro ⟨H10, H6, H11⟩
  iapply (twp_then d i e1) $$ [H10 H6]
  · unfold tagInv
    isplitl [H10]; · iexact H10
    iexists g6
    isplitr
    · ipureintro; exact tagged_zero low nf low.n g6
    · iexact H6
  iintro %_ HI
  unfold tagInv
  icases HI with ⟨H10, %f, %hf, H6⟩
  have e2 := steps_run (F := F) d i _ _ (backSet_run d i arg6 arg10 arg11 low le_rfl nf f hf g11) 16 0 16 (by decide) rfl
  iapply (twp_then d i e2) $$ [H10 H6 H11]
  · unfold backInv
    isplitl [H10]; · iexact H10
    isplitl [H6]; · iexact H6
    iexists g11
    isplitr
    · ipureintro; intro j; rw [if_neg (by omega)]
    · iexact H11
  iintro %_ HI
  unfold backInv
  icases HI with ⟨H10, H6, %b, %hb, H11⟩
  iapply (twp_then d i e3) $$ [H10 H6]
  · unfold tagInv
    isplitl [H10]; · iexact H10
    iexists f
    isplitr
    · ipureintro; exact tagged_zero high nf low.n f
    · iexact H6
  iintro %_ HI
  unfold tagInv
  icases HI with ⟨H10, %f', %hf', H6⟩
  have e4 := steps_run (F := F) d i _ _ (backAdd_run d i arg6 arg10 arg11 high (by decide) nf f' hf' (low.earnedAt nf)) 16 0 16 (by decide) rfl
  iapply twp_end
  iapply (twp_then d i e4) $$ [H10 H6 H11]
  · unfold backInv
    isplitl [H10]; · iexact H10
    isplitl [H6]; · iexact H6
    iexists b
    isplitr
    · ipureintro; intro j
      have hj : (j 0).val < 256 := (j 0).isLt
      rw [hb, if_pos (by omega), if_neg (by omega)]
    · iexact H11
  iintro %_ HI
  unfold backInv
  icases HI with ⟨H10, H6, %b', %hb', H11⟩
  iapply twp_pure
  isplitl [H10]; · iexact H10
  isplitl [H6]; · iexists f'; iexact H6
  have e5 : b' = seq (boostAt nf) := funext fun j => by
    have hj : (j 0).val < 256 := (j 0).isLt
    rw [hb', if_pos (by omega)]
    rfl
  rw [e5]
  iexact H11

end Tagging

/-! ## A chunk -/

section Chunk

variable (h : Half) (B : Memref sig .scVector .vmem (Sn h.n) .f32)
  (arg8 : Memref sig .scVector .vmem S2x512 .i32) (arg9 : Memref sig .scVector .vmem S512 .f32)
  (arg10 : Memref sig .scVector .vmem S256 .i32) (arg11 : Memref sig .scVector .vmem S256 .f32)
  (ids : ℕ → ℕ → BitVec 32) (row : Vec F (Sn h.n) .f32) (nf : ℕ → BitVec 32) (b : ℕ → F .f32) (r : Fin 2)

/-- Sixteen ids of a row of the two. -/
theorem table_lane {m : ℕ} {x : S1x16.Idx → BitVec 32} (hm : 16 * m + 16 ≤ 512)
    (hx : ∀ (k : Fin 16) (j : S2x512.Idx), (j 0).val = r.val → (j 1).val = 16 * m + k.val →
      (shapeCast S16 x shapeCasts_S1x16_S16 : IVec S16 32) (lane k) = table ids j) (k : Fin 16) :
    (shapeCast S16 x shapeCasts_S1x16_S16 : IVec S16 32) (lane k) = ids r.val (16 * m + k.val) := by
  have hk := k.isLt
  exact hx k (fun a => match a with | 0 => ⟨r.val, r.isLt⟩ | 1 => ⟨16 * m + k.val, by show _ < 512; omega⟩) rfl rfl

/-- While the row is gathered. -/
def gatherInv (m : ℕ) : sProp 𝕄 :=
  iprop(Held (F := F) d i arg8 (table ids) ∗ Held d i B row ∗ ∃ g, ⌜Gathered h (ids r.val) row m g⌝ ∗ Held d i arg9 g)

theorem gatherTrip_run (m : ℕ) (hm : m < 32) (o8 h8 o9 h9) (e8 : o8 = ![r.val, 16 * m]) (e9 : o9 = ![16 * m]) :
    gatherInv d i h B arg8 arg9 ids row r m ⊢
      twp (F := F) d i (gatherTrip i h B arg8 arg9 o8 h8 o9 h9) fun _ => gatherInv d i h B arg8 arg9 ids row r (m + 1) := by
  unfold gatherInv gatherTrip
  iintro ⟨H8, HB, %g, %hg, H9⟩
  iapply (held_loadIds d i e8) $$ H8
  iintro %x %hx H8
  have hv := table_lane ids r (by omega) hx
  iapply (twp_assume d i (h.fits_holds _))
  iapply (held_loadIdx d i) $$ HB
  iintro HB
  iapply (held_loadGroup (n := 512) d i e9) $$ H9
  iintro %y %hy H9
  iapply (held_storeGroup (n := 512) d i e9) $$ H9
  iintro %g' %hg' H9
  iapply twp_pure
  isplitl [H8]; · iexact H8
  isplitl [HB]; · iexact HB
  iexists g'
  isplitr
  · ipureintro
    intro q j hq hj
    by_cases h1 : (q 0).val < 16 * m
    · rw [hg'.2 q (.inl h1)]; exact hg q j h1 hj
    · have h3 : (q 0).val = 16 * m + (⟨(q 0).val - 16 * m, by omega⟩ : Fin 16).val := by
        show _ = 16 * m + ((q 0).val - 16 * m)
        omega
      rw [hg'.1 _ q h3]
      exact gathered_lane h (ids r.val) row m _ hv _ _ j (by rw [← h3]; exact hj)
  · iexact H9

/-- While the buffer is filled with minus infinity. -/
def fillInv (m : ℕ) : sProp 𝕄 :=
  iprop(∃ f : Vec F (Sn h.n) .f32, ⌜∀ j, (j 0).val < 16 * m → f j = ninf⌝ ∗ Held d i B f)

theorem fillTrip_run (m : ℕ) (o ho) (e : o = ![16 * m]) :
    fillInv (F := F) d i h B m ⊢ twp (F := F) d i (fillTrip i h B o ho) fun _ => fillInv d i h B (m + 1) := by
  unfold fillInv fillTrip
  iintro ⟨%f, %hf, HB⟩
  iapply (held_loadGroup (n := h.n) d i e) $$ HB
  iintro %y %hy HB
  iapply (held_storeGroup (n := h.n) d i e) $$ HB
  iintro %f' %hf' HB
  iapply twp_pure
  iexists f'
  isplitr
  · ipureintro
    intro j hj
    by_cases h1 : (j 0).val < 16 * m
    · rw [hf'.2 j (.inl h1)]; exact hf j h1
    · have h3 : (j 0).val = 16 * m + (⟨(j 0).val - 16 * m, by omega⟩ : Fin 16).val := by
        show _ = 16 * m + ((j 0).val - 16 * m)
        omega
      rw [hf'.1 _ j h3]
      rfl
  · iexact HB

/-- While the gathered values are put back. -/
def putInv (g : Vec F S512 .f32) (m : ℕ) : sProp 𝕄 :=
  iprop(Held (F := F) d i arg8 (table ids) ∗ Held d i arg9 g ∗ ∃ f, ⌜PutBack h (ids r.val) row m f⌝ ∗ Held d i B f)

theorem putTrip_run (g : Vec F S512 .f32) (hg : Gathered h (ids r.val) row 32 g) (m : ℕ) (hm : m < 32) (o8 h8 o9 h9)
    (e8 : o8 = ![r.val, 16 * m]) (e9 : o9 = ![16 * m]) :
    putInv d i h B arg8 arg9 ids row r g m ⊢
      twp (F := F) d i (putTrip i h B arg8 arg9 o8 h8 o9 h9) fun _ => putInv d i h B arg8 arg9 ids row r g (m + 1) := by
  unfold putInv putTrip
  iintro ⟨H8, H9, %f, %hf, HB⟩
  iapply (held_loadIds d i e8) $$ H8
  iintro %x %hx H8
  have hv := table_lane ids r (by omega) hx
  iapply (held_loadGroup (n := 512) d i e9) $$ H9
  iintro %y %hy H9
  iapply (twp_assume d i (h.fits_holds _))
  iapply (held_storeIdx d i) $$ HB
  iintro HB
  iapply twp_pure
  isplitl [H8]; · iexact H8
  isplitl [H9]; · iexact H9
  iexists _
  isplitr
  rotate_left
  · iexact HB
  · ipureintro
    refine putBack_step h (ids r.val) row m f _ y hv (fun k j hj => ?_) _ hf
    have hk := k.isLt
    have hq : 16 * m + k.val < 512 := by omega
    rw [hy k (fun a => ⟨16 * m + k.val, by
      obtain rfl : a = 0 := Subsingleton.elim _ _
      exact hq⟩) rfl]
    exact hg _ j (by show 16 * m + k.val < 16 * 32; omega) hj

/-- While the boosts are added. -/
def boostInv (base : Vec F (Sn h.n) .f32) (m : ℕ) : sProp 𝕄 :=
  iprop(Held (F := F) d i arg10 (seq nf) ∗ Held d i arg11 (seq b) ∗ ∃ f, ⌜Boosted h nf b base m f⌝ ∗ Held d i B f)

theorem boostTrip_run (base : Vec F (Sn h.n) .f32) (m : ℕ) (hm : m < 16) (o ho) (e : o = ![16 * m]) :
    boostInv d i h B arg10 arg11 nf b base m ⊢
      twp (F := F) d i (boostTrip i h B arg10 arg11 o ho) fun _ => boostInv d i h B arg10 arg11 nf b base (m + 1) := by
  unfold boostInv boostTrip
  iintro ⟨H10, H11, %f, %hf, HB⟩
  iapply (held_loadGroup (n := 256) d i e) $$ H10
  iintro %v %hv H10
  iapply (held_loadGroup (n := 256) d i e) $$ H11
  iintro %bv %hbv H11
  have hv' := seq_lane (n := 256) (by omega) hv
  have hb' := seq_lane (n := 256) (by omega) hbv
  iapply (twp_assume d i (h.fits_place v _ fun x hx => ((h.boosts_iff v bv x).1 hx).1))
  iapply (held_storeIdx d i) $$ HB
  iintro HB
  iapply twp_pure
  isplitl [H10]; · iexact H10
  isplitl [H11]; · iexact H11
  iexists _
  isplitr
  rotate_left
  · iexact HB
  · ipureintro
    exact boosted_step h nf b base m f v bv hv' hb' _ hf

open Classical in
/-- What a chunk leaves in its buffer: the allowed places' values, minus infinity elsewhere, raised by the boosts. -/
def chunkOut : Vec F (Sn h.n) .f32 := fun j =>
  raised nf b (h.start + (j 0).val) 256
    (if ∃ l, l < 512 ∧ (ids r.val l).toNat = h.start + (j 0).val then row j else ninf)

variable (w : Walk h r)

/-- A chunk, run. -/
theorem chunk_run (g9 : Vec F S512 .f32) :
    iprop(Held (F := F) d i arg8 (table ids) ∗ Held d i arg9 g9 ∗ Held d i arg10 (seq nf) ∗ Held d i arg11 (seq b) ∗ Held d i B row) ⊢
      twp (F := F) d i (chunk i h w B arg8 arg9 arg10 arg11) fun _ =>
        iprop(Held (F := F) d i arg8 (table ids) ∗ (∃ g, Held d i arg9 g) ∗ Held d i arg10 (seq nf) ∗ Held d i arg11 (seq b) ∗
          Held d i B (chunkOut h ids row nf b r)) := by
  unfold chunk
  iintro ⟨H8, H9, H10, H11, HB⟩
  iapply (Scf.wp_for_bind frame (wpE (defs₀ (F := F)) 𝒱₀ (thr d i) none) Set.univ _ _ _ _ _ _
    (fun m _ => gatherInv d i h B arg8 arg9 ids row r m)
    (fun k _ => gatherTrip_run d i h B arg8 arg9 ids row r k.val (lt_of_lt_of_eq k.isLt w.gather_trips) _ _ _ _ (w.gather8_eq k) (w.gather9_eq k))) $$ [H8 H9 HB]
  · unfold gatherInv
    isplitl [H8]; · iexact H8
    isplitl [HB]; · iexact HB
    iexists g9
    isplitr
    · ipureintro; intro q j hq; omega
    · iexact H9
  iintro %_ HI
  unfold gatherInv
  icases HI with ⟨H8, HB, %g, %hg, H9⟩
  rw [show Scf.trips _ _ _ = 32 from w.gather_trips] at hg
  iapply (Scf.wp_for_bind frame (wpE (defs₀ (F := F)) 𝒱₀ (thr d i) none) Set.univ _ _ _ _ _ _
    (fun m _ => fillInv d i h B m) (fun k _ => fillTrip_run d i h B k.val _ _ (w.fillB_eq k))) $$ [HB]
  · unfold fillInv
    iexists row
    isplitr
    · ipureintro; intro j hj; omega
    · iexact HB
  iintro %_ HI
  unfold fillInv
  icases HI with ⟨%f, %hf, HB⟩
  rw [show 16 * Scf.trips _ _ _ = h.n from w.fill_trips] at hf
  iapply (Scf.wp_for_bind frame (wpE (defs₀ (F := F)) 𝒱₀ (thr d i) none) Set.univ _ _ _ _ _ _
    (fun m _ => putInv d i h B arg8 arg9 ids row r g m)
    (fun k _ => putTrip_run d i h B arg8 arg9 ids row r g hg k.val (lt_of_lt_of_eq k.isLt w.put_trips) _ _ _ _ (w.put8_eq k) (w.put9_eq k))) $$ [H8 H9 HB]
  · unfold putInv
    isplitl [H8]; · iexact H8
    isplitl [H9]; · iexact H9
    iexists f
    isplitr
    · ipureintro; exact putBack_zero h (ids r.val) row f fun j => hf j (j 0).isLt
    · iexact HB
  iintro %_ HI
  unfold putInv
  icases HI with ⟨H8, H9, %f2, %hf2, HB⟩
  rw [show Scf.trips _ _ _ = 32 from w.put_trips] at hf2
  iapply (Scf.wp_for_bind frame (wpE (defs₀ (F := F)) 𝒱₀ (thr d i) none) Set.univ _ _ _ _ _ _
    (fun m _ => boostInv d i h B arg10 arg11 nf b f2 m)
    (fun k _ => boostTrip_run d i h B arg10 arg11 nf b f2 k.val (lt_of_lt_of_eq k.isLt w.boost_trips) _ _ (w.boostAt_eq k))) $$ [H10 H11 HB]
  · unfold boostInv
    isplitl [H10]; · iexact H10
    isplitl [H11]; · iexact H11
    iexists f2
    isplitr
    · ipureintro; exact boosted_zero h nf b f2
    · iexact HB
  iintro %_ HI
  unfold boostInv
  icases HI with ⟨H10, H11, %f3, %hf3, HB⟩
  rw [show Scf.trips _ _ _ = 16 from w.boost_trips] at hf3
  iapply twp_pure
  isplitl [H8]; · iexact H8
  isplitl [H9]; · iexists g; iexact H9
  isplitl [H10]; · iexact H10
  isplitl [H11]; · iexact H11
  have e : f3 = chunkOut h ids row nf b r := funext fun j => by
    rw [hf3 j, hf2 j]
    unfold chunkOut
    congr
  rw [e]
  iexact HB

end Chunk

end Cert.Proof
-- ==== Proof.Copies.lean ====
module

public import proofs.«01_k».proof.Proof.Trips
public import Idealize.ShloMosaic.Lib.Batch

@[expose] public section

/-! # A tile's copies

`Part` is a memref of any memory held at a share with given values. A copy takes the source's values to the
destination; a wait hands both back. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits Batch)

variable {F : FTy → Type} [FloatOps F]

local notation "𝕄" => MT nD τ sig (HIx 1) (Elt F) ℕ UU ℕ

variable (d : Dev nD) (i : grid0.Coords)

/-- The memref `M`, held at share `q`, with values `v`. -/
def Part {sp : Space} {s : Shape} {e : EltTy} (M : Memref sig .scVector sp s e) (q : PosShare TreeShare) (v : Vec F s e) : sProp 𝕄 :=
  iprop(∃ f, ⌜M.view.read (Elt F) f = v⌝ ∗ (M.view.loc (thr d i) ↦[M.view.set]{q} f))

instance Part_storable {sp : Space} {s : Shape} {e : EltTy} (M : Memref sig .scVector sp s e) (q : PosShare TreeShare) (v : Vec F s e) :
    BI.Storable (upEmb : UEmb _ 𝕄) (Part d i M q v) := by
  unfold Part; infer_instance

theorem part_held {s : Shape} {e : EltTy} (M : Memref sig .scVector .vmem s e) (v : Vec F s e) :
    Part d i M fullShare v = Held d i M v := rfl

/-- The counters the copies run on. -/
abbrev EC : UEmb Counters (MT nD τ sig (HIx 1) (Elt F) ℕ UU ℕ) := countersEmb

/-- A semaphore of the tile at rest. -/
abbrev Rest (sm : DmaSem sig) : sProp 𝕄 := semVal (thr d i, .dma sm) 0

/-- A copy under way on a semaphore: its credit `N`, what its wait hands back. -/
abbrev Under (sm : DmaSem sig) (N : ℕ) (A : sProp 𝕄) : sProp 𝕄 := Flight (EC (F := F)) (thr d i) (.dma sm) (none : HIx 1) N A

section Rules

variable {sp sp' : Space} {s : Shape} {e : EltTy} {src : Memref sig .scVector sp s e} {dst : Memref sig .scVector sp' s e}
  {sm : DmaSem sig} {α : Type} {q : PosShare TreeShare} {v w : Vec F s e}

/-- What a landed copy gives. -/
theorem landed (fs : Buf (Elt F) (src.view.loc (thr d i))) (fd : Buf (Elt F) (dst.view.loc (thr d i))) (hfs : src.view.read (Elt F) fs = v) :
    iprop((dst.view.loc (thr d i) ↦[dst.view.set]{fullShare}
        (dst.view.write (Elt F) fd ((ReadAs.same : ReadAs (Elt F) s e s e).apply (src.view.read (Elt F) fs)) Finset.univ))
      ∗ (src.view.loc (thr d i) ↦[src.view.set]{q} fs)) ⊢ iprop(Part d i dst fullShare v ∗ Part d i src q v) := by
  unfold Part
  iintro ⟨Hd, Hs⟩
  isplitl [Hd]
  · iexists _
    isplitr
    rotate_left
    · iexact Hd
    · ipureintro
      exact (View.read_write_univ _ _).trans hfs
  · iexists fs
    isplitr
    · ipureintro; exact hfs
    · iexact Hs

/-- A copy starts. -/
theorem copy_start {hsrc : src.view.WordExact} {hdst : dst.view.WordExact} {hsem : DmaTarget.Typed (nD := nD) (p := (thr d i).2) sp (.dma sm) (.here dst)}
    (hpos : 0 < s.numel) {k : PUnit → VProg F i α} {Q : α → sProp 𝕄} :
    iprop(Part d i src q v ∗ Part d i dst fullShare w ∗ Rest d i sm) ⊢
      iprop((Under d i sm dst.view.dmaCredit iprop(Part d i dst fullShare v ∗ Part d i src q v) -∗ twp d i (k ⟨⟩) Q)
        -∗ twp d i (Prog.lift (.enqueueDma src (.here dst) (.dma sm) hsrc hdst hsem) >>= k) Q) := by
  iintro ⟨Hs, Hd, Hv⟩ Hk
  unfold Part
  icases Hs with ⟨%fs, %hfs, Hs⟩
  icases Hd with ⟨%fd, %hfd, Hd⟩
  iapply (Transfers.wp_dmaLocal (defs := defs₀ (F := F)) (EC (F := F)) 𝒱₀ (thr d i) none (Q := Q) (src := src) (dst := dst)
    (via := ReadAs.same) (sm := .dma sm) (k := k) (none : HIx 1) dst.view.dmaCredit rfl (View.dmaCredit_pos _ hpos) subset_rfl
    (fs := fs) (fd := fd)) $$ [Hs Hd Hv]
  · isplitl [Hs]; · iexact Hs
    isplitl [Hd]; · iexact Hd
    iexact Hv
  iintro HF
  iapply Hk
  iapply (Transfers.Flight_mono (EC (F := F)) (thr d i) (landed d i fs fd hfs)) $$ HF

/-- What the waits of a tile need and leave: what it owes, its earlier waits beside those of its own copies. -/
def Waiting (O : CellTallies nD τ sig (HIx 1)) (W : Waits sig (HIx 1)) : sProp 𝕄 :=
  iprop(MayWaits (thr d i) (none : HIx 1) O ∗ ∃ W', ⌜∀ p ∈ W', p ∈ W ∨ p.2 = none⌝ ∗ owes (thr d i) O W')

theorem waited {O : CellTallies nD τ sig (HIx 1)} {W W' : Waits sig (HIx 1)} (hW : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact hW p hp

/-- A wait for a copy. -/
theorem copy_wait {hsrc : src.view.WordExact} {hdst : dst.view.WordExact} {N : ℕ} (hN : dst.view.dmaCredit = N) {A : sProp 𝕄}
    {O : CellTallies nD τ sig (HIx 1)} {W : Waits sig (HIx 1)} {k : PUnit → VProg F i α} {Q : α → sProp 𝕄} :
    iprop(Under d i sm N A ∗ Waiting d i O W) ⊢
      iprop((iprop(A ∗ Rest d i sm ∗ Waiting d i O W) -∗ twp d i (k ⟨⟩) Q)
        -∗ twp d i (Prog.lift (.waitDma2 sm src dst hsrc hdst) >>= k) Q) := by
  unfold Waiting
  iintro ⟨HF, #Hm, %W', %hW, HO⟩ Hk
  iapply (Transfers.wp_waitLocalO (defs := defs₀ (F := F)) (EC (F := F)) 𝒱₀ (thr d i) none (Q := Q) (srcw := src) (dstw := dst)
    (sem := sm) (k := k) (none : HIx 1) hN (O := O) (W := W')) $$ [HF HO]
  · isplitl [HF]; · iexact HF
    isplitl [HO]; · iexact HO
    iapply (MayWaits.elim (SemLoc.dma sm)) $$ Hm
  iintro ⟨HA, Hv, HO⟩
  iapply Hk
  isplitl [HA]; · iexact HA
  isplitl [Hv]; · iexact Hv
  isplitr; · iexact Hm
  iexists _
  isplitr
  rotate_left
  · iexact HO
  · ipureintro; exact waited (O := O) hW _

/-! ## Two copies on one semaphore -/

/-- Two copies of credit `N` on one semaphore, `j` of them started, `u` units waited for. -/
abbrev Two (sm : DmaSem sig) (N : ℕ) (A : Fin 2 → sProp 𝕄) (j u : ℕ) : sProp 𝕄 :=
  Batch (EC (F := F)) (thr d i) (.dma sm) (none : HIx 1) N A j u

theorem two_start {hsrc : src.view.WordExact} {hdst : dst.view.WordExact} {hsem : DmaTarget.Typed (nD := nD) (p := (thr d i).2) sp (.dma sm) (.here dst)}
    {N : ℕ} (hN : dst.view.dmaCredit = N) {A : Fin 2 → sProp 𝕄} {j : ℕ} (hj : j < 2)
    (hA : A ⟨j, hj⟩ = iprop(Part d i dst fullShare v ∗ Part d i src q v))
    {k : PUnit → VProg F i α} {Q : α → sProp 𝕄} :
    iprop(Part d i src q v ∗ Part d i dst fullShare w ∗ Two d i sm N A j 0) ⊢
      iprop((Two d i sm N A (j + 1) 0 -∗ twp d i (k ⟨⟩) Q)
        -∗ twp d i (Prog.lift (.enqueueDma src (.here dst) (.dma sm) hsrc hdst hsem) >>= k) Q) := by
  iintro ⟨Hs, Hd, Hv⟩ Hk
  unfold Part
  icases Hs with ⟨%fs, %hfs, Hs⟩
  icases Hd with ⟨%fd, %hfd, Hd⟩
  have hD := (landed d i fs fd hfs (q := q)).trans (Entails.of_eq hA.symm)
  iapply (Transfers.wp_dmaBatch (defs := defs₀ (F := F)) (EC (F := F)) 𝒱₀ (thr d i) none (Q := Q) (src := src) (dst := dst)
    (via := ReadAs.same) (sm := .dma sm) (k := k) (none : HIx 1) N hN subset_rfl hj (Nat.zero_le _)
    (fs := fs) (fd := fd) hD) $$ [Hs Hd Hv]
  · isplitl [Hs]; · iexact Hs
    isplitl [Hd]; · iexact Hd
    iexact Hv
  iintro HB
  iapply Hk $$ HB

theorem two_skip {hsrc : src.view.WordExact} {hdst : dst.view.WordExact} {N : ℕ} (hN : dst.view.dmaCredit = N) (hN0 : 0 < N)
    {A : Fin 2 → sProp 𝕄} {O : CellTallies nD τ sig (HIx 1)} {W : Waits sig (HIx 1)} {k : PUnit → VProg F i α} {Q : α → sProp 𝕄} :
    iprop(Two d i sm N A 2 0 ∗ Waiting d i O W) ⊢
      iprop((iprop(Two d i sm N A 2 N ∗ Waiting d i O W) -∗ twp d i (k ⟨⟩) Q)
        -∗ twp d i (Prog.lift (.waitDma2 sm src dst hsrc hdst) >>= k) Q) := by
  unfold Waiting
  iintro ⟨HF, #Hm, %W', %hW, HO⟩ Hk
  iapply (Transfers.wp_waitBatchO (defs := defs₀ (F := F)) (EC (F := F)) 𝒱₀ (thr d i) none (Q := Q) (srcw := src) (dstw := dst)
    (sem := sm) (k := k) (none : HIx 1) hN (D := A) (u := 0) (by omega) (O := O) (W := W')) $$ [HF HO]
  · isplitl [HF]; · iexact HF
    isplitl [HO]; · iexact HO
    iapply (MayWaits.elim (SemLoc.dma sm)) $$ Hm
  rw [Nat.zero_add]
  iintro ⟨HA, HO⟩
  iapply Hk
  isplitl [HA]; · iexact HA
  isplitr; · iexact Hm
  iexists _
  isplitr
  rotate_left
  · iexact HO
  · ipureintro; exact waited (O := O) hW _

theorem two_wait {hsrc : src.view.WordExact} {hdst : dst.view.WordExact} {N : ℕ} (hN : dst.view.dmaCredit = N) (hN0 : 0 < N)
    {A : Fin 2 → sProp 𝕄} {O : CellTallies nD τ sig (HIx 1)} {W : Waits sig (HIx 1)} {k : PUnit → VProg F i α} {Q : α → sProp 𝕄} :
    iprop(Two d i sm N A 2 N ∗ Waiting d i O W) ⊢
      iprop((iprop((A 0 ∗ A 1) ∗ Rest d i sm ∗ Waiting d i O W) -∗ twp d i (k ⟨⟩) Q)
        -∗ twp d i (Prog.lift (.waitDma2 sm src dst hsrc hdst) >>= k) Q) := by
  unfold Waiting
  iintro ⟨HF, #Hm, %W', %hW, HO⟩ Hk
  iapply (Transfers.wp_waitBatchLastO (defs := defs₀ (F := F)) (EC (F := F)) 𝒱₀ (thr d i) none (Q := Q) (srcw := src) (dstw := dst)
    (sem := sm) (k := k) (none : HIx 1) hN hN0 (D := A) (u := N) (by omega) (O := O) (W := W')) $$ [HF HO]
  · isplitl [HF]; · iexact HF
    isplitl [HO]; · iexact HO
    iapply (MayWaits.elim (SemLoc.dma sm)) $$ Hm
  rw [show (Finset.univ : Finset (Fin 2)) = {0, 1} by decide, SparseCore.bigSep_insert' (by decide), bigSep_singleton]
  iintro ⟨HA, Hv, HO⟩
  iapply Hk
  isplitl [HA]; · iexact HA
  isplitl [Hv]; · iexact Hv
  isplitr; · iexact Hm
  iexists _
  isplitr
  rotate_left
  · iexact HO
  · ipureintro; exact waited (O := O) hW _

end Rules

end Cert.Proof
-- ==== Proof.Rows.lean ====
module

public import proofs.«01_k».proof.Proof.Copies

@[expose] public section

/-! # The rows of the ids, and the halves of the rows

Which elements each of the kernel's slices holds, and in which order. The two rows of ids of a tile are together its
buffer of ids. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-! ## The rows of a tile's ids -/

section Ids

variable (M : Memref sig .scVector .vmem S2x512 .i32)

theorem inb_idsRow (r : Fin 2) : ∀ a, (![r.val, 0] : Fin 2 → ℕ) a + S1x512.size a ≤ S2x512.size a := by
  revert r; decide

/-- The `r`-th row of the ids of a tile. -/
abbrev idsAt (r : Fin 2) : Memref sig .scVector .vmem S512 .i32 := idsRow M ![r.val, 0] (inb_idsRow r)

/-- A place of a row of the two. -/
abbrev at2 (r : Fin 2) (x : S512.Idx) : S2x512.Idx := fun a => match a with | 0 => r | 1 => x 0

abbrev col (j : S2x512.Idx) : S512.Idx := fun a => match a with | 0 => j 1

theorem idsAt_emb (r : Fin 2) (x : S512.Idx) : (idsAt M r).view.emb x = M.view.emb (at2 r x) := by
  show M.view.emb ((Rect.unit (s := S2x512) ![r.val, 0] S1x512.size (inb_idsRow r)).emb (Shape.reshapeEquiv _ x)) = _
  congr 1
  rw [show Shape.reshapeEquiv (s := S1x512) (s' := S512) _ x = _ from Shape.reshapeEquiv_cons_one (d := ![512]) _ x]
  funext a
  refine Fin.ext ?_
  rw [Rect.emb_apply]
  match a with
  | 0 => rfl
  | 1 =>
    show 0 + 1 * (x 0).val = (x 0).val
    omega

theorem mem_idsAt (r : Fin 2) (j : S2x512.Idx) : M.view.emb j ∈ (idsAt M r).view.set ↔ j 0 = r := by
  constructor
  · intro h
    obtain ⟨x, _, hx⟩ := Finset.mem_map.1 h
    rw [idsAt_emb] at hx
    rw [← M.view.emb.injective hx]
  · intro h
    refine Finset.mem_map.2 ⟨col j, Finset.mem_univ _, ?_⟩
    rw [idsAt_emb]
    congr 1
    funext a
    match a with
    | 0 => exact h.symm
    | 1 => rfl

theorem idsAt_subset (r : Fin 2) : (idsAt M r).view.set ⊆ M.view.set := by
  intro y hy
  obtain ⟨x, _, rfl⟩ := Finset.mem_map.1 hy
  rw [idsAt_emb]
  exact View.emb_mem_set _ _

theorem idsAt_union : M.view.set = (idsAt M 0).view.set ∪ (idsAt M 1).view.set := by
  ext y
  constructor
  · intro hy
    obtain ⟨j, _, rfl⟩ := Finset.mem_map.1 hy
    rw [Finset.mem_union, mem_idsAt, mem_idsAt]
    have : ∀ q : Fin 2, q = 0 ∨ q = 1 := by decide
    exact this (j 0)
  · intro hy
    exact (Finset.mem_union.1 hy).elim (fun h => idsAt_subset M 0 h) (fun h => idsAt_subset M 1 h)

theorem idsAt_disjoint : Disjoint (idsAt M 0).view.set (idsAt M 1).view.set := by
  rw [Finset.disjoint_left]
  intro y h0 h1
  obtain ⟨j, _, rfl⟩ := Finset.mem_map.1 (idsAt_subset M 0 h0)
  rw [mem_idsAt] at h0 h1
  exact absurd (h0.symm.trans h1) (show (0 : Fin 2) ≠ 1 by decide)

theorem idsAt_read (r : Fin 2) (f : M.view.ty.Contents (Elt F)) (x : S512.Idx) :
    (idsAt M r).view.read (Elt F) f x = M.view.read (Elt F) f (at2 r x) := by
  rw [View.read_apply, View.read_apply]
  rw! [idsAt_emb]
  rfl

/-- The buffer's two rows, apart. -/
theorem rows_split (v : Vec F S2x512 .i32) : Held d i M v ⊢
    iprop(Part d i (idsAt M 0) fullShare (fun x => v (at2 0 x)) ∗ Part d i (idsAt M 1) fullShare (fun x => v (at2 1 x))) := by
  unfold Held Part
  iintro ⟨%f, %hf, H⟩
  rw [idsAt_union M]
  ihave H' := (pointsTo_union (idsAt_disjoint M)).1 $$ H
  icases H' with ⟨H0, H1⟩
  isplitl [H0]
  · iexists f
    isplitr
    · ipureintro; funext x; rw [idsAt_read, hf]
    · iexact H0
  · iexists f
    isplitr
    · ipureintro; funext x; rw [idsAt_read, hf]
    · iexact H1

/-- The two rows, together. -/
theorem rows_join (ids : ℕ → ℕ → BitVec 32) :
    iprop(Part (F := F) d i (idsAt M 0) fullShare (seq (ids 0)) ∗ Part d i (idsAt M 1) fullShare (seq (ids 1))) ⊢ Held d i M (table ids) := by
  unfold Held Part
  iintro ⟨⟨%f0, %h0, H0⟩, ⟨%f1, %h1, H1⟩⟩
  ihave H := (pointsTo_join (ℓ := M.view.loc (thr d i)) (idsAt_disjoint M) (f := f0) (g := f1)) $$ [H0 H1]
  · isplitl [H0] <;> iassumption
  iexists ((idsAt M 1).view.set.piecewise f1 f0)
  rw [idsAt_union M]
  isplitr
  · ipureintro
    funext j
    rw [View.read_apply]
    have e : j = at2 (j 0) (col j) := by
      funext a
      match a with
      | 0 => rfl
      | 1 => rfl
    have hc : ∀ q : Fin 2, q = 0 ∨ q = 1 := by decide
    rcases hc (j 0) with h | h
    · have hn : M.view.emb j ∉ (idsAt M 1).view.set := by rw [mem_idsAt, h]; exact show ¬ ((0 : Fin 2) = 1) by decide
      rw [Finset.piecewise_eq_of_notMem _ _ _ hn, ← View.read_apply]
      have := congrFun h0 (col j)
      rw [idsAt_read, ← h, ← e] at this
      rw [this]
      show ids 0 (j 1).val = ids (j 0).val (j 1).val
      rw [h]; rfl
    · have hn : M.view.emb j ∈ (idsAt M 1).view.set := by rw [mem_idsAt, h]
      rw [Finset.piecewise_eq_of_mem _ _ _ hn, ← View.read_apply]
      have := congrFun h1 (col j)
      rw [idsAt_read, ← h, ← e] at this
      rw [this]
      show ids 1 (j 1).val = ids (j 0).val (j 1).val
      rw [h]; rfl
  · iexact H

end Ids

end Cert.Proof
-- ==== Proof.Body.lean ====
module

public import proofs.«01_k».proof.Proof.Rows

@[expose] public section

/-! # A tile's whole run

From its two rows of scores and of allowed ids, the boosted ids and its buffers, a tile leaves its two rows of the
result. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits Batch)

variable {F : FTy → Type} [FloatOps F]

local notation "𝕄" => MT nD τ sig (HIx 1) (Elt F) ℕ UU ℕ

variable (d : Dev nD) (i : grid0.Coords)

/-- The tile's halves of its two rows of an array, held with values `v`. -/
def Rows4 (M : Memref sig .scVector .hbm S64x100000 .f32) (v : (h : Half) → Fin 2 → Vec F (Sn h.n) .f32) : sProp 𝕄 :=
  iprop(Part d i (rowPart M (k0_off3 i 0#32) (k0_off3_inb i 0) low low_inb) fullShare (v low 0) ∗
    Part d i (rowPart M (k0_off3 i 0#32) (k0_off3_inb i 0) high high_inb) fullShare (v high 0) ∗
    Part d i (rowPart M (k0_off3 i 1#32) (k0_off3_inb i 1) low low_inb) fullShare (v low 1) ∗
    Part d i (rowPart M (k0_off3 i 1#32) (k0_off3_inb i 1) high high_inb) fullShare (v high 1))

/-- The tile's two rows of the allowed ids. -/
def Ids2 (M : Memref sig .scVector .hbm S64x512 .i32) (ids : ℕ → ℕ → BitVec 32) : sProp 𝕄 :=
  iprop(Part (F := F) d i (allowedRow M (k0_off2 i 0#32) (k0_off2_inb i 0)) fullShare (seq (ids 0)) ∗
    Part d i (allowedRow M (k0_off2 i 1#32) (k0_off2_inb i 1)) fullShare (seq (ids 1)))

theorem rowPart_congr {M : Memref sig .scVector .hbm S64x100000 .f32} {o o' : Fin 2 → ℕ} (e : o = o') (ho ho') (h : Half) (hl) :
    rowPart M o ho h hl = rowPart M o' ho' h hl := by
  subst e; rfl

theorem bind_eq {α β : Type} (p : VProg F i α) (k : α → VProg F i β) : Prog.bind p k = p >>= k := rfl

theorem off1_off3 : k0_off1 i = k0_off3 i 0#32 := (k0_off1_eq i).trans (k0_off3_eq i 0).symm

section

variable (arg2 : Memref sig .scVector .hbm S64x100000 .f32) (harg2 : arg2.IsWhole) (arg3 : Memref sig .scVector .hbm S64x512 .i32)
  (harg3 : arg3.IsWhole) (arg4 : Memref sig .scVector .hbm S256 .i32) (harg4 : arg4.IsWhole)
  (arg5 : Memref sig .scVector .hbm S64x100000 .f32) (harg5 : arg5.IsWhole) (arg6 : Memref sig .scVector .vmem S50048 .f32)
  (harg6 : arg6.IsWhole) (arg7 : Memref sig .scVector .vmem S49952 .f32) (harg7 : arg7.IsWhole)
  (arg8 : Memref sig .scVector .vmem S2x512 .i32) (harg8 : arg8.IsWhole) (arg9 : Memref sig .scVector .vmem S512 .f32)
  (harg9 : arg9.IsWhole) (arg10 : Memref sig .scVector .vmem S256 .i32) (harg10 : arg10.IsWhole)
  (arg11 : Memref sig .scVector .vmem S256 .f32) (harg11 : arg11.IsWhole) (arg12 arg13 arg14 arg15 arg16 v1272_r0 : DmaSems sig S_)

/-- A tile's buffers, with whatever they hold. -/
def Bufs : sProp 𝕄 :=
  iprop((∃ g, Held (F := F) d i arg6 g) ∗ (∃ g, Held d i arg7 g) ∗ (∃ g, Held d i arg8 g) ∗ (∃ g, Held d i arg9 g) ∗
    (∃ g, Held d i arg10 g) ∗ ∃ g, Held d i arg11 g)

/-- A tile's semaphores, at rest. -/
def Sems : sProp 𝕄 :=
  iprop(Rest (F := F) d i arg12.sem ∗ Rest d i arg13.sem ∗ Rest d i arg14.sem ∗ Rest d i arg15.sem ∗ Rest d i arg16.sem ∗
    Rest d i v1272_r0.sem)

variable (srow w5 : (h : Half) → Fin 2 → Vec F (Sn h.n) .f32) (ids : ℕ → ℕ → BitVec 32) (nf : ℕ → BitVec 32) (q : PosShare TreeShare)
  (O : CellTallies nD τ sig (HIx 1)) (W : Waits sig (HIx 1))

/-- What the two copies of allowed ids hand back. -/
def idsBack (r : Fin 2) : sProp 𝕄 :=
  iprop(Part (F := F) d i (idsAt arg8 r) fullShare (seq (ids r.val)) ∗
    Part d i (allowedRow arg3 (k0_off2 i (BitVec.ofNat 32 r.val)) (k0_off2_inb i r)) fullShare (seq (ids r.val)))

instance idsBack_storable (r : Fin 2) : BI.Storable (upEmb : UEmb _ 𝕄) (idsBack (F := F) d i arg3 arg8 ids r) := by
  unfold idsBack; infer_instance

/-- A tile's run. -/
theorem body_run :
    iprop(Rows4 d i arg2 srow ∗ Rows4 d i arg5 w5 ∗ Ids2 d i arg3 ids ∗ Part d i arg4 q (seq nf) ∗
        Bufs d i arg6 arg7 arg8 arg9 arg10 arg11 ∗ Sems d i arg12 arg13 arg14 arg15 arg16 v1272_r0 ∗ Waiting d i O W) ⊢
      twp (F := F) d i (cc0_k (F := F) i arg2 harg2 arg3 harg3 arg4 harg4 arg5 harg5 arg6 harg6 arg7 harg7 arg8 harg8 arg9 harg9 arg10 harg10
          arg11 harg11 arg12 arg13 arg14 arg15 arg16 v1272_r0) fun _ =>
        iprop(Rows4 d i arg2 srow ∗ Rows4 d i arg5 (fun h r => chunkOut h ids (srow h r) nf (boostAt nf) r) ∗ Ids2 d i arg3 ids ∗
          Part d i arg4 q (seq nf) ∗ Bufs d i arg6 arg7 arg8 arg9 arg10 arg11 ∗
          Sems d i arg12 arg13 arg14 arg15 arg16 v1272_r0 ∗ Waiting d i O W) := by
  rw [cc0_k_eq]
  simp only [bind_eq]
  unfold opening between chunks
  simp only [bind_assoc]
  unfold Rows4 Ids2 Bufs Sems
  iintro ⟨⟨Hi0l, Hi0h, Hi1l, Hi1h⟩, ⟨Ho0l, Ho0h, Ho1l, Ho1h⟩, ⟨Ha0, Ha1⟩, H4, ⟨⟨%g6, H6⟩, ⟨%g7, H7⟩, ⟨%g8, H8⟩, ⟨%g9, H9⟩, ⟨%g10, H10⟩, ⟨%g11, H11⟩⟩,
    ⟨S12, S13, S14, S15, S16, S0⟩, HW⟩
  -- the first row's second half starts in
  ihave Hi0h := (Entails.of_eq (congrArg (fun M => Part d i M fullShare (srow high 0))
    (rowPart_congr (off1_off3 i) (k0_off1_inb i) (k0_off3_inb i 0) high high_inb).symm)) $$ Hi0h
  ihave H7 := (Entails.of_eq (part_held d i arg7 g7).symm) $$ H7
  iapply (copy_start d i (dst := arg7) (w := g7) h_S49952) $$ [Hi0h H7 S14]
  · isplitl [Hi0h]; · iexact Hi0h
    isplitl [H7]; · iexact H7
    iexact S14
  iintro U14
  -- the two rows of ids start in
  ihave H8 := (rows_split d i arg8 g8) $$ H8
  icases H8 with ⟨H80, H81⟩
  imod (Transfers.batch_alloc' (EC (F := F)) (thr d i) (sm := .dma arg12.sem) (none : HIx 1) (idsAt arg8 0).view.dmaCredit
    (idsBack d i arg3 arg8 ids) (E := Set.univ)) $$ S12 with U12
  iapply (two_start d i (src := allowedRow arg3 (k0_off2 i 0#32) (k0_off2_inb i 0)) (dst := idsAt arg8 0)
    (v := seq (ids 0)) (sm := arg12.sem) (A := idsBack d i arg3 arg8 ids) (j := 0) rfl (by decide) rfl) $$ [Ha0 H80 U12]
  · isplitl [Ha0]; · iexact Ha0
    isplitl [H80]; · iexact H80
    iexact U12
  iintro U12
  iapply (two_start d i (src := allowedRow arg3 (k0_off2 i 1#32) (k0_off2_inb i 1)) (dst := idsAt arg8 1)
    (v := seq (ids 1)) (sm := arg12.sem) (A := idsBack d i arg3 arg8 ids) (j := 1) rfl (by decide) rfl) $$ [Ha1 H81 U12]
  · isplitl [Ha1]; · iexact Ha1
    isplitl [H81]; · iexact H81
    iexact U12
  iintro U12
  -- the boosted ids come in
  ihave H10 := (Entails.of_eq (part_held d i arg10 g10).symm) $$ H10
  iapply (copy_start d i (src := arg4) (dst := arg10) (v := seq nf) (w := g10) (by decide)) $$ [H4 H10 S0]
  · isplitl [H4]; · iexact H4
    isplitl [H10]; · iexact H10
    iexact S0
  iintro U0
  iapply (copy_wait d i rfl) $$ [U0 HW]
  · isplitl [U0]; · iexact U0
    iexact HW
  iintro ⟨⟨H10, H4⟩, S0, HW⟩
  ihave H10 := (Entails.of_eq (part_held d i arg10 (seq nf))) $$ H10
  -- the tagging
  iapply (twp_then d i (tagging_run d i arg6 arg10 arg11 nf g6 g11)) $$ [H10 H6 H11]
  · isplitl [H10]; · iexact H10
    isplitl [H6]; · iexact H6
    iexact H11
  iintro %_ ⟨H10, ⟨%f6, H6⟩, H11⟩
  ihave H6 := (Entails.of_eq (part_held d i arg6 f6).symm) $$ H6
  iapply (copy_start d i (dst := arg6) (w := f6) h_S50048) $$ [Hi0l H6 S13]
  · isplitl [Hi0l]; · iexact Hi0l
    isplitl [H6]; · iexact H6
    iexact S13
  iintro U13
  iapply (two_skip d i rfl (View.dmaCredit_pos _ (by decide))) $$ [U12 HW]
  · isplitl [U12]; · iexact U12
    iexact HW
  iintro ⟨U12, HW⟩
  iapply (two_wait d i rfl (View.dmaCredit_pos _ (by decide))) $$ [U12 HW]
  · isplitl [U12]; · iexact U12
    iexact HW
  unfold idsBack
  iintro ⟨⟨⟨H80, Ha0⟩, ⟨H81, Ha1⟩⟩, S12, HW⟩
  ihave H8 := (rows_join (F := F) d i arg8 ids) $$ [H80 H81]
  · isplitl [H80]; · iexact H80
    iexact H81
  -- the first row's second half
  iapply (copy_wait d i rfl) $$ [U14 HW]
  · isplitl [U14]; · iexact U14
    iexact HW
  iintro ⟨⟨H7, Hi0h⟩, S14, HW⟩
  ihave Hi0h := (Entails.of_eq (congrArg (fun M => Part d i M fullShare (srow high 0))
    (rowPart_congr (off1_off3 i) (k0_off1_inb i) (k0_off3_inb i 0) high high_inb))) $$ Hi0h
  ihave H7 := (Entails.of_eq (part_held d i arg7 (srow high 0))) $$ H7
  iapply (twp_then d i (chunk_run d i high arg7 arg8 arg9 arg10 arg11 ids (srow high 0) nf (boostAt nf) 0 walkHigh0 g9)) $$ [H8 H9 H10 H11 H7]
  · isplitl [H8]; · iexact H8
    isplitl [H9]; · iexact H9
    isplitl [H10]; · iexact H10
    isplitl [H11]; · iexact H11
    iexact H7
  iintro %_ ⟨H8, ⟨%g9a, H9⟩, H10, H11, H7⟩
  ihave H7 := (Entails.of_eq (part_held d i arg7 (chunkOut high ids (srow high 0) nf (boostAt nf) 0)).symm) $$ H7
  iapply (copy_start d i (src := arg7) (dst := rowPart arg5 (k0_off3 i 0#32) (k0_off3_inb i 0) high high_inb) (w := w5 high 0) (v := chunkOut high ids (srow high 0) nf (boostAt nf) 0) high.pos) $$ [H7 Ho0h S16]
  · isplitl [H7]; · iexact H7
    isplitl [Ho0h]; · iexact Ho0h
    iexact S16
  iintro U16
  iapply (copy_wait d i rfl) $$ [U16 HW]
  · isplitl [U16]; · iexact U16
    iexact HW
  iintro ⟨⟨Ho0h, H7⟩, S16, HW⟩
  -- the second row's second half starts in; the first row's first half
  iapply (copy_start d i (dst := arg7) (v := srow high 1) (w := (chunkOut high ids (srow high 0) nf (boostAt nf) 0)) high.pos) $$ [Hi1h H7 S14]
  · isplitl [Hi1h]; · iexact Hi1h
    isplitl [H7]; · iexact H7
    iexact S14
  iintro U14
  iapply (copy_wait d i rfl) $$ [U13 HW]
  · isplitl [U13]; · iexact U13
    iexact HW
  iintro ⟨⟨H6, Hi0l⟩, S13, HW⟩
  ihave H6 := (Entails.of_eq (part_held d i arg6 (srow low 0))) $$ H6
  iapply (twp_then d i (chunk_run d i low arg6 arg8 arg9 arg10 arg11 ids (srow low 0) nf (boostAt nf) 0 walkLow0 g9a)) $$ [H8 H9 H10 H11 H6]
  · isplitl [H8]; · iexact H8
    isplitl [H9]; · iexact H9
    isplitl [H10]; · iexact H10
    isplitl [H11]; · iexact H11
    iexact H6
  iintro %_ ⟨H8, ⟨%g9b, H9⟩, H10, H11, H6⟩
  ihave H6 := (Entails.of_eq (part_held d i arg6 (chunkOut low ids (srow low 0) nf (boostAt nf) 0)).symm) $$ H6
  iapply (copy_start d i (src := arg6) (dst := rowPart arg5 (k0_off3 i 0#32) (k0_off3_inb i 0) low low_inb) (w := w5 low 0) (v := chunkOut low ids (srow low 0) nf (boostAt nf) 0) low.pos) $$ [H6 Ho0l S15]
  · isplitl [H6]; · iexact H6
    isplitl [Ho0l]; · iexact Ho0l
    iexact S15
  iintro U15
  iapply (copy_wait d i rfl) $$ [U15 HW]
  · isplitl [U15]; · iexact U15
    iexact HW
  iintro ⟨⟨Ho0l, H6⟩, S15, HW⟩
  -- the second row's first half starts in; the second row's second half
  iapply (copy_start d i (dst := arg6) (v := srow low 1) (w := (chunkOut low ids (srow low 0) nf (boostAt nf) 0)) low.pos) $$ [Hi1l H6 S13]
  · isplitl [Hi1l]; · iexact Hi1l
    isplitl [H6]; · iexact H6
    iexact S13
  iintro U13
  iapply (copy_wait d i rfl) $$ [U14 HW]
  · isplitl [U14]; · iexact U14
    iexact HW
  iintro ⟨⟨H7, Hi1h⟩, S14, HW⟩
  ihave H7 := (Entails.of_eq (part_held d i arg7 (srow high 1))) $$ H7
  iapply (twp_then d i (chunk_run d i high arg7 arg8 arg9 arg10 arg11 ids (srow high 1) nf (boostAt nf) 1 walkHigh1 g9b)) $$ [H8 H9 H10 H11 H7]
  · isplitl [H8]; · iexact H8
    isplitl [H9]; · iexact H9
    isplitl [H10]; · iexact H10
    isplitl [H11]; · iexact H11
    iexact H7
  iintro %_ ⟨H8, ⟨%g9c, H9⟩, H10, H11, H7⟩
  ihave H7 := (Entails.of_eq (part_held d i arg7 (chunkOut high ids (srow high 1) nf (boostAt nf) 1)).symm) $$ H7
  iapply (copy_start d i (src := arg7) (dst := rowPart arg5 (k0_off3 i 1#32) (k0_off3_inb i 1) high high_inb) (w := w5 high 1) (v := chunkOut high ids (srow high 1) nf (boostAt nf) 1) high.pos) $$ [H7 Ho1h S16]
  · isplitl [H7]; · iexact H7
    isplitl [Ho1h]; · iexact Ho1h
    iexact S16
  iintro U16
  -- the second row's first half
  iapply (copy_wait d i rfl) $$ [U13 HW]
  · isplitl [U13]; · iexact U13
    iexact HW
  iintro ⟨⟨H6, Hi1l⟩, S13, HW⟩
  ihave H6 := (Entails.of_eq (part_held d i arg6 (srow low 1))) $$ H6
  iapply (twp_then d i (chunk_run d i low arg6 arg8 arg9 arg10 arg11 ids (srow low 1) nf (boostAt nf) 1 walkLow1 g9c)) $$ [H8 H9 H10 H11 H6]
  · isplitl [H8]; · iexact H8
    isplitl [H9]; · iexact H9
    isplitl [H10]; · iexact H10
    isplitl [H11]; · iexact H11
    iexact H6
  iintro %_ ⟨H8, ⟨%g9e, H9⟩, H10, H11, H6⟩
  ihave H6 := (Entails.of_eq (part_held d i arg6 (chunkOut low ids (srow low 1) nf (boostAt nf) 1)).symm) $$ H6
  iapply (copy_start d i (src := arg6) (dst := rowPart arg5 (k0_off3 i 1#32) (k0_off3_inb i 1) low low_inb) (w := w5 low 1) (v := chunkOut low ids (srow low 1) nf (boostAt nf) 1) low.pos) $$ [H6 Ho1l S15]
  · isplitl [H6]; · iexact H6
    isplitl [Ho1l]; · iexact Ho1l
    iexact S15
  iintro U15
  iapply (copy_wait d i rfl) $$ [U15 HW]
  · isplitl [U15]; · iexact U15
    iexact HW
  iintro ⟨⟨Ho1l, H6⟩, S15, HW⟩
  iapply (copy_wait d i rfl) $$ [U16 HW]
  · isplitl [U16]; · iexact U16
    iexact HW
  iintro ⟨⟨Ho1h, H7⟩, S16, HW⟩
  ihave H6 := (Entails.of_eq (part_held d i arg6 _)) $$ H6
  ihave H7 := (Entails.of_eq (part_held d i arg7 _)) $$ H7
  iapply twp_pure
  isplitl [Hi0l Hi0h Hi1l Hi1h]
  · isplitl [Hi0l]; · iexact Hi0l
    isplitl [Hi0h]; · iexact Hi0h
    isplitl [Hi1l]; · iexact Hi1l
    iexact Hi1h
  isplitl [Ho0l Ho0h Ho1l Ho1h]
  · isplitl [Ho0l]; · iexact Ho0l
    isplitl [Ho0h]; · iexact Ho0h
    isplitl [Ho1l]; · iexact Ho1l
    iexact Ho1h
  isplitl [Ha0 Ha1]
  · isplitl [Ha0]; · iexact Ha0
    iexact Ha1
  isplitl [H4]; · iexact H4
  isplitl [H6 H7 H8 H9 H10 H11]
  · isplitl [H6]; · iexists _; iexact H6
    isplitl [H7]; · iexists _; iexact H7
    isplitl [H8]; · iexists _; iexact H8
    isplitl [H9]; · iexists _; iexact H9
    isplitl [H10]; · iexists _; iexact H10
    iexists _; iexact H11
  isplitl [S12 S13 S14 S15 S16 S0]
  · isplitl [S12]; · iexact S12
    isplitl [S13]; · iexact S13
    isplitl [S14]; · iexact S14
    isplitl [S15]; · iexact S15
    isplitl [S16]; · iexact S16
    iexact S0
  iexact HW

end

end Cert.Proof
-- ==== Proof.Pieces.lean ====
module

public import proofs.«01_k».proof.Proof.Body

@[expose] public section

/-! # The pieces of the arrays a tile works on

Tile number `2 s + c` (core `c`, tile `s` of it) works on rows `2 (2 s + c)` and the next of the arrays of 64 rows. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits Batch)

variable {F : FTy → Type} [FloatOps F]

local notation "𝕄" => MT nD τ sig (HIx 1) (Elt F) ℕ UU ℕ

variable (d : Dev nD) (i : grid0.Coords)

theorem of_cast {α β : Type} (e : α = β) {a b : α} (h : cast e a = cast e b) : a = b := by
  subst e; exact h

/-- Read through its own view, a piece's values are a buffer's there. -/
theorem part_at {sp : Space} {s : Shape} {e : EltTy} (P : Memref sig .scVector sp s e) (q : PosShare TreeShare)
    (G : Buf (Elt F) (P.view.loc (thr d i))) :
    Part d i P q (P.view.read (Elt F) G) = (P.view.loc (thr d i) ↦[P.view.set]{q} G : sProp 𝕄) := by
  have there : Part d i P q (P.view.read (Elt F) G) ⊢ (P.view.loc (thr d i) ↦[P.view.set]{q} G : sProp 𝕄) := by
    unfold Part
    iintro ⟨%f, %hf, H⟩
    have e : (P.view.loc (thr d i) ↦[P.view.set]{q} f : sProp 𝕄) = (P.view.loc (thr d i) ↦[P.view.set]{q} G) := by
      refine pointsTo_congr fun y hy => ?_
      obtain ⟨x, _, rfl⟩ := Finset.mem_map.1 hy
      have := congrFun hf x
      rw [View.read_apply, View.read_apply] at this
      exact of_cast _ this
    ihave H := (Entails.of_eq e) $$ H
    iexact H
  have back : (P.view.loc (thr d i) ↦[P.view.set]{q} G : sProp 𝕄) ⊢ Part d i P q (P.view.read (Elt F) G) := by
    unfold Part
    iintro H
    iexists G
    isplitr
    · ipureintro; rfl
    · iexact H
  exact BI.Entails.antisymm there back

/-- The number of a tile's row `r`. -/
abbrev rowNo (r : ℕ) : ℕ := 4 * (i 1).val + 2 * (i 0).val + r

theorem rowNo_lt (r : Fin 2) : rowNo i r.val < 64 := by
  have h0 : (i 0).val < 2 := (i 0).isLt
  have h1 : (i 1).val < 16 := (i 1).isLt
  have := r.isLt
  unfold rowNo
  omega

/-! ## The two arrays of scores -/

/-- A place of an array of scores. -/
abbrev cell (a b : ℕ) (ha : a < 64) (hb : b < 100000) : S64x100000.Idx := fun t => match t with | 0 => ⟨a, ha⟩ | 1 => ⟨b, hb⟩

/-- A tile's rows of an array of scores. -/
def tileRows : Finset S64x100000.Idx := Finset.univ.filter fun j => (j 0).val / 2 = 2 * (i 1).val + (i 0).val

theorem mem_tileRows (j : S64x100000.Idx) : j ∈ tileRows i ↔ (j 0).val = rowNo i 0 ∨ (j 0).val = rowNo i 1 := by
  unfold tileRows rowNo
  rw [Finset.mem_filter]
  constructor
  · rintro ⟨_, h⟩; omega
  · intro h; exact ⟨Finset.mem_univ _, by omega⟩

theorem Half.inb (h : Half) : ∀ a, (![h.start] : Fin 1 → ℕ) a + (Sn h.n).size a ≤ S100000.size a := by
  intro a
  match a with
  | 0 => exact h.fits

section Scores

variable (M : Memref sig .scVector .hbm S64x100000 .f32) (h : Half) (r : Fin 2)

/-- The half `h` of the tile's row `r`. -/
abbrev rowAt : Memref sig .scVector .hbm (Sn h.n) .f32 :=
  rowPart M (k0_off3 i (BitVec.ofNat 32 r.val)) (k0_off3_inb i r) h h.inb

theorem within (x : (Sn h.n).Idx) : h.start + (x 0).val < 100000 := by
  have := h.fits
  have : (x 0).val < h.n := (x 0).isLt
  omega

theorem rowAt_emb (x : (Sn h.n).Idx) :
    (rowAt i M h r).view.emb x = M.view.emb (cell (rowNo i r.val) (h.start + (x 0).val) (rowNo_lt i r) (within h x)) := by
  show M.view.emb ((Rect.unit (s := S64x100000) (k0_off3 i (BitVec.ofNat 32 r.val)) S1x100000.size (k0_off3_inb i r)).emb
    (Shape.reshapeEquiv _ ((Rect.unit (s := S100000) ![h.start] (Sn h.n).size h.inb).emb x))) = _
  congr 1
  rw [show Shape.reshapeEquiv (s := S1x100000) (s' := S100000) _ ((Rect.unit (s := S100000) ![h.start] (Sn h.n).size h.inb).emb x) = _ from
    Shape.reshapeEquiv_cons_one (d := ![100000]) _ _]
  funext a
  refine Fin.ext ?_
  rw [Rect.emb_apply]
  have e := congrFun (k0_off3_eq i r) a
  show k0_off3 i (BitVec.ofNat 32 r.val) a + _ = _
  rw [e]
  match a with
  | 0 =>
    show 4 * (i 1).val + 2 * (i 0).val + r.val + 1 * 0 = rowNo i r.val
    rfl
  | 1 =>
    show 0 + 1 * ((Rect.unit (s := S100000) ![h.start] (Sn h.n).size h.inb).emb x 0).val = h.start + (x 0).val
    rw [Rect.emb_apply]
    show 0 + 1 * (h.start + 1 * (x 0).val) = h.start + (x 0).val
    omega

theorem mem_rowAt (j : S64x100000.Idx) : M.view.emb j ∈ (rowAt i M h r).view.set ↔
    (j 0).val = rowNo i r.val ∧ h.start ≤ (j 1).val ∧ (j 1).val < h.start + h.n := by
  constructor
  · intro hm
    obtain ⟨x, _, hx⟩ := Finset.mem_map.1 hm
    rw [rowAt_emb] at hx
    rw [← M.view.emb.injective hx]
    have : (x 0).val < h.n := (x 0).isLt
    exact ⟨rfl, Nat.le_add_right _ _, Nat.add_lt_add_left this _⟩
  · rintro ⟨h0, h1, h2⟩
    refine Finset.mem_map.2 ⟨fun | 0 => ⟨(j 1).val - h.start, show (j 1).val - h.start < h.n by omega⟩, Finset.mem_univ _, ?_⟩
    rw [rowAt_emb]
    congr 1
    funext a
    refine Fin.ext ?_
    match a with
    | 0 => exact h0.symm
    | 1 => show h.start + ((j 1).val - h.start) = (j 1).val; omega

theorem rowAt_mem {y : M.view.ty.shape.Idx} (hy : y ∈ (rowAt i M h r).view.set) : ∃ j, M.view.emb j = y := by
  obtain ⟨x, _, rfl⟩ := Finset.mem_map.1 hy
  exact ⟨_, (rowAt_emb i M h r x).symm⟩

theorem rowAt_disjoint {h' : Half} {r' : Fin 2} (hd : r ≠ r' ∨ h.start + h.n ≤ h'.start) :
    Disjoint (rowAt i M h r).view.set (rowAt i M h' r').view.set := by
  rw [Finset.disjoint_left]
  intro y h0 h1
  obtain ⟨j, rfl⟩ := rowAt_mem i M h r h0
  rw [mem_rowAt] at h0 h1
  have : (r.val = r'.val) := by unfold rowNo at h0 h1; omega
  rcases hd with hd | hd
  · exact hd (Fin.ext this)
  · omega

theorem tileRows_pieces : (tileRows i).map M.view.emb =
    (rowAt i M low 0).view.set ∪ ((rowAt i M high 0).view.set ∪ ((rowAt i M low 1).view.set ∪ (rowAt i M high 1).view.set)) := by
  ext y
  constructor
  · intro hy
    obtain ⟨j, hj, rfl⟩ := Finset.mem_map.1 hy
    have hlt : (j 1).val < 100000 := (j 1).isLt
    rcases (mem_tileRows i j).1 hj with e | e <;> rcases Nat.lt_or_ge (j 1).val 50048 with hl | hl
    · exact Finset.mem_union_left _ ((mem_rowAt i M low 0 j).2 ⟨e, Nat.zero_le _, by show _ < 0 + 50048; omega⟩)
    · exact Finset.mem_union_right _ (Finset.mem_union_left _ ((mem_rowAt i M high 0 j).2 ⟨e, hl, hlt⟩))
    · exact Finset.mem_union_right _ (Finset.mem_union_right _ (Finset.mem_union_left _ ((mem_rowAt i M low 1 j).2 ⟨e, Nat.zero_le _, by show _ < 0 + 50048; omega⟩)))
    · exact Finset.mem_union_right _ (Finset.mem_union_right _ (Finset.mem_union_right _ ((mem_rowAt i M high 1 j).2 ⟨e, hl, hlt⟩)))
  · intro hy
    have key : ∀ (h : Half) (r : Fin 2), y ∈ (rowAt i M h r).view.set → y ∈ (tileRows i).map M.view.emb := by
      intro h r hy
      obtain ⟨j, rfl⟩ := rowAt_mem i M h r hy
      rw [mem_rowAt] at hy
      refine Finset.mem_map.2 ⟨j, (mem_tileRows i j).2 ?_, rfl⟩
      have hc : ∀ q : Fin 2, q = 0 ∨ q = 1 := by decide
      rcases hc r with e | e <;> rw [e] at hy
      · exact .inl hy.1
      · exact .inr hy.1
    rcases Finset.mem_union.1 hy with hy | hy
    · exact key low 0 hy
    rcases Finset.mem_union.1 hy with hy | hy
    · exact key high 0 hy
    rcases Finset.mem_union.1 hy with hy | hy
    · exact key low 1 hy
    · exact key high 1 hy

theorem rowAt_read (G : M.view.ty.Contents (Elt F)) : (rowAt i M h r).view.read (Elt F) G =
    fun x => M.view.read (Elt F) G (cell (rowNo i r.val) (h.start + (x 0).val) (rowNo_lt i r) (within h x)) := by
  funext x
  rw [View.read_apply, View.read_apply]
  rw! [rowAt_emb]
  rfl

/-- The tile's rows of an array that holds `G` are its four pieces. -/
theorem rows4_at (G : Buf (Elt F) (M.view.loc (thr d i))) :
    (M.view.loc (thr d i) ↦[(tileRows i).map M.view.emb]{fullShare} G : sProp 𝕄) ⊣⊢
      Rows4 d i M fun h r x => M.view.read (Elt F) G (cell (rowNo i r.val) (h.start + (x 0).val) (rowNo_lt i r) (within h x)) := by
  have e : Rows4 d i M (fun h r x => M.view.read (Elt F) G (cell (rowNo i r.val) (h.start + (x 0).val) (rowNo_lt i r) (within h x))) =
      iprop((M.view.loc (thr d i) ↦[(rowAt i M low 0).view.set]{fullShare} G) ∗ (M.view.loc (thr d i) ↦[(rowAt i M high 0).view.set]{fullShare} G) ∗
        (M.view.loc (thr d i) ↦[(rowAt i M low 1).view.set]{fullShare} G) ∗ (M.view.loc (thr d i) ↦[(rowAt i M high 1).view.set]{fullShare} G)) := by
    have key := fun (h : Half) (r : Fin 2) => (congrArg (Part d i (rowAt i M h r) fullShare) (rowAt_read i M h r G)).symm.trans
      (part_at d i (rowAt i M h r) fullShare G)
    unfold Rows4
    rw [show Part d i (rowPart M (k0_off3 i 0#32) (k0_off3_inb i 0) low low_inb) fullShare _ = _ from key low 0,
      show Part d i (rowPart M (k0_off3 i 0#32) (k0_off3_inb i 0) high high_inb) fullShare _ = _ from key high 0,
      show Part d i (rowPart M (k0_off3 i 1#32) (k0_off3_inb i 1) low low_inb) fullShare _ = _ from key low 1,
      show Part d i (rowPart M (k0_off3 i 1#32) (k0_off3_inb i 1) high high_inb) fullShare _ = _ from key high 1]
  rw [e, tileRows_pieces]
  have n01 : (0 : Fin 2) ≠ 1 := by decide
  have d3 : Disjoint (rowAt i M low 1).view.set (rowAt i M high 1).view.set := rowAt_disjoint i M _ _ (.inr (by decide))
  have d2 : Disjoint (rowAt i M high 0).view.set ((rowAt i M low 1).view.set ∪ (rowAt i M high 1).view.set) :=
    Finset.disjoint_union_right.2 ⟨rowAt_disjoint i M _ _ (.inl n01), rowAt_disjoint i M _ _ (.inl n01)⟩
  have d1 : Disjoint (rowAt i M low 0).view.set ((rowAt i M high 0).view.set ∪ ((rowAt i M low 1).view.set ∪ (rowAt i M high 1).view.set)) :=
    Finset.disjoint_union_right.2 ⟨rowAt_disjoint i M _ _ (.inr (by decide)),
      Finset.disjoint_union_right.2 ⟨rowAt_disjoint i M _ _ (.inl n01), rowAt_disjoint i M _ _ (.inl n01)⟩⟩
  rw [Entails.antisymm (pointsTo_union (ℓ := M.view.loc (thr d i)) d1).1 (pointsTo_union d1).2,
    Entails.antisymm (pointsTo_union (ℓ := M.view.loc (thr d i)) d2).1 (pointsTo_union d2).2,
    Entails.antisymm (pointsTo_union (ℓ := M.view.loc (thr d i)) d3).1 (pointsTo_union d3).2]

end Scores

/-! ## The array of allowed ids -/

/-- A place of the array of allowed ids. -/
abbrev idCell (a b : ℕ) (ha : a < 64) (hb : b < 512) : S64x512.Idx := fun t => match t with | 0 => ⟨a, ha⟩ | 1 => ⟨b, hb⟩

/-- A tile's rows of the allowed ids. -/
def tileIds : Finset S64x512.Idx := Finset.univ.filter fun j => (j 0).val / 2 = 2 * (i 1).val + (i 0).val

theorem mem_tileIds (j : S64x512.Idx) : j ∈ tileIds i ↔ (j 0).val = rowNo i 0 ∨ (j 0).val = rowNo i 1 := by
  unfold tileIds rowNo
  rw [Finset.mem_filter]
  constructor
  · rintro ⟨_, h⟩; omega
  · intro h; exact ⟨Finset.mem_univ _, by omega⟩

section AllowedIds

variable (M : Memref sig .scVector .hbm S64x512 .i32) (r : Fin 2)

/-- The tile's row `r` of the allowed ids. -/
abbrev idRowAt : Memref sig .scVector .hbm S512 .i32 :=
  allowedRow M (k0_off2 i (BitVec.ofNat 32 r.val)) (k0_off2_inb i r)

theorem idRowAt_emb (x : S512.Idx) :
    (idRowAt i M r).view.emb x = M.view.emb (idCell (rowNo i r.val) (x 0).val (rowNo_lt i r) (x 0).isLt) := by
  show M.view.emb ((Rect.unit (s := S64x512) (k0_off2 i (BitVec.ofNat 32 r.val)) S1x512.size (k0_off2_inb i r)).emb
    (Shape.reshapeEquiv _ x)) = _
  congr 1
  rw [show Shape.reshapeEquiv (s := S1x512) (s' := S512) _ x = _ from Shape.reshapeEquiv_cons_one (d := ![512]) _ x]
  funext a
  refine Fin.ext ?_
  rw [Rect.emb_apply]
  have e := congrFun (k0_off2_eq i r) a
  show k0_off2 i (BitVec.ofNat 32 r.val) a + _ = _
  rw [e]
  match a with
  | 0 =>
    show 4 * (i 1).val + 2 * (i 0).val + r.val + 1 * 0 = rowNo i r.val
    rfl
  | 1 =>
    show 0 + 1 * (x 0).val = (x 0).val
    omega

theorem mem_idRowAt (j : S64x512.Idx) : M.view.emb j ∈ (idRowAt i M r).view.set ↔ (j 0).val = rowNo i r.val := by
  constructor
  · intro hm
    obtain ⟨x, _, hx⟩ := Finset.mem_map.1 hm
    rw [idRowAt_emb] at hx
    rw [← M.view.emb.injective hx]
  · intro h0
    refine Finset.mem_map.2 ⟨fun | 0 => j 1, Finset.mem_univ _, ?_⟩
    rw [idRowAt_emb]
    congr 1
    funext a
    refine Fin.ext ?_
    match a with
    | 0 => exact h0.symm
    | 1 => rfl

theorem idRowAt_mem {y : M.view.ty.shape.Idx} (hy : y ∈ (idRowAt i M r).view.set) : ∃ j, M.view.emb j = y := by
  obtain ⟨x, _, rfl⟩ := Finset.mem_map.1 hy
  exact ⟨_, (idRowAt_emb i M r x).symm⟩

theorem tileIds_pieces : (tileIds i).map M.view.emb = (idRowAt i M 0).view.set ∪ (idRowAt i M 1).view.set := by
  ext y
  constructor
  · intro hy
    obtain ⟨j, hj, rfl⟩ := Finset.mem_map.1 hy
    rw [Finset.mem_union, mem_idRowAt, mem_idRowAt]
    exact (mem_tileIds i j).1 hj
  · intro hy
    rcases Finset.mem_union.1 hy with hy | hy
    · obtain ⟨j, rfl⟩ := idRowAt_mem i M 0 hy
      exact Finset.mem_map.2 ⟨j, (mem_tileIds i j).2 (.inl ((mem_idRowAt i M 0 j).1 hy)), rfl⟩
    · obtain ⟨j, rfl⟩ := idRowAt_mem i M 1 hy
      exact Finset.mem_map.2 ⟨j, (mem_tileIds i j).2 (.inr ((mem_idRowAt i M 1 j).1 hy)), rfl⟩

theorem idRowAt_disjoint : Disjoint (idRowAt i M 0).view.set (idRowAt i M 1).view.set := by
  rw [Finset.disjoint_left]
  intro y h0 h1
  obtain ⟨j, rfl⟩ := idRowAt_mem i M 0 h0
  rw [mem_idRowAt] at h0 h1
  have : rowNo i 0 = rowNo i 1 := h0.symm.trans h1
  unfold rowNo at this
  omega

theorem idRowAt_read (G : M.view.ty.Contents (Elt F)) : (idRowAt i M r).view.read (Elt F) G =
    fun x => M.view.read (Elt F) G (idCell (rowNo i r.val) (x 0).val (rowNo_lt i r) (x 0).isLt) := by
  funext x
  rw [View.read_apply, View.read_apply]
  rw! [idRowAt_emb]
  rfl

/-- The tile's rows of the allowed ids, in an array that holds `G`, are its two rows. -/
theorem ids2_at (G : Buf (Elt F) (M.view.loc (thr d i))) (ids : ℕ → ℕ → BitVec 32)
    (hids : ∀ (r : Fin 2) (x : S512.Idx), M.view.read (Elt F) G (idCell (rowNo i r.val) (x 0).val (rowNo_lt i r) (x 0).isLt) = ids r.val (x 0).val) :
    (M.view.loc (thr d i) ↦[(tileIds i).map M.view.emb]{fullShare} G : sProp 𝕄) ⊣⊢ Ids2 d i M ids := by
  have key := fun (r : Fin 2) => (congrArg (Part d i (idRowAt i M r) fullShare)
    ((idRowAt_read i M r G).trans (funext fun x => hids r x))).symm.trans (part_at d i (idRowAt i M r) fullShare G)
  unfold Ids2
  rw [show Part d i (allowedRow M (k0_off2 i 0#32) (k0_off2_inb i 0)) fullShare (seq (ids 0)) = _ from key 0,
    show Part d i (allowedRow M (k0_off2 i 1#32) (k0_off2_inb i 1)) fullShare (seq (ids 1)) = _ from key 1, tileIds_pieces]
  exact pointsTo_union (idRowAt_disjoint i M)

end AllowedIds

end Cert.Proof
-- ==== Proof.Tile.lean ====
module

public import proofs.«01_k».proof.Proof.Pieces

@[expose] public section

/-! # A tile's task

What the launch hands a tile and takes back of it, and that its run gives it. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits Batch)

variable {F : FTy → Type} [FloatOps F]

local notation "𝕄" => MT nD τ sig (HIx 1) (Elt F) ℕ UU ℕ

variable (d : Dev nD) (i : grid0.Coords)

open Idealize.ShloMosaic.SparseCore.Cfg (ownBufs ownSems0 ownCells ownRefs mem_ownCells mem_ownRefs)

variable (m : (ℓ : Loc nD τ sig) → Buf (Elt F) ℓ)

/-- Where the four arguments and the result lie. -/
abbrev inputLoc (d : Dev nD) : Loc nD τ sig := (SparseCore.T d).loc main_arg0
abbrev scoresLoc (d : Dev nD) : Loc nD τ sig := (SparseCore.T d).loc main_arg1
abbrev allowedLoc (d : Dev nD) : Loc nD τ sig := (SparseCore.T d).loc main_arg2
abbrev nextLoc (d : Dev nD) : Loc nD τ sig := (SparseCore.T d).loc main_arg3
abbrev resultLoc (d : Dev nD) : Loc nD τ sig := (SparseCore.T d).loc main_v0

abbrev scoresM : Memref sig .scVector .hbm S64x100000 .f32 := Memref.whole main_arg1_scv
abbrev allowedM : Memref sig .scVector .hbm S64x512 .i32 := Memref.whole main_arg2_scv
abbrev nextM : Memref sig .scVector .hbm S256 .i32 := Memref.whole main_arg3_scv
abbrev resultM : Memref sig .scVector .hbm S64x100000 .f32 := Memref.whole main_v0_scv
abbrev buf6 : Memref sig .scVector .vmem S50048 .f32 := Memref.whole cc0_scratch0
abbrev buf7 : Memref sig .scVector .vmem S49952 .f32 := Memref.whole cc0_scratch1
abbrev buf8 : Memref sig .scVector .vmem S2x512 .i32 := Memref.whole cc0_scratch2
abbrev buf9 : Memref sig .scVector .vmem S512 .f32 := Memref.whole cc0_scratch3
abbrev buf10 : Memref sig .scVector .vmem S256 .i32 := Memref.whole cc0_scratch4
abbrev buf11 : Memref sig .scVector .vmem S256 .f32 := Memref.whole cc0_scratch5

/-- The boosted ids, numbered; 0 past their end. -/
def nextFor (d : Dev nD) (l : ℕ) : BitVec 32 :=
  if h : l < 256 then (m (nextLoc d) : Vec F S256 .i32) (fun | 0 => ⟨l, h⟩) else 0#32

/-- The allowed ids, numbered; 0 past their ends. -/
def allowedIds (d : Dev nD) (a l : ℕ) : BitVec 32 :=
  if h : a < 64 ∧ l < 512 then (m (allowedLoc d) : Vec F S64x512 .i32) (idCell a l h.1 h.2) else 0#32

open Classical in
/-- The result: a score where its position is allowed, minus infinity elsewhere, raised by the boosts of its position. -/
def result (d : Dev nD) : Vec F S64x100000 .f32 := fun j =>
  raised (nextFor m d) (boostAt (nextFor m d)) (j 1).val 256
    (if ∃ l, l < 512 ∧ (allowedIds m d (j 0).val l).toNat = (j 1).val then (m (scoresLoc d) : Vec F S64x100000 .f32) j else ninf)

/-- The number of a tile among all. -/
def tileNo (i : grid0.Coords) : Fin 32 := ⟨2 * (i 1).val + (i 0).val, by
  have h0 : (i 0).val < 2 := (i 0).isLt
  have h1 : (i 1).val < 16 := (i 1).isLt
  omega⟩

/-- What a tile works on: its rows of the scores and of the allowed ids, a share of the boosted ids, its rows of the
result, which hold `out`. -/
def tilePart (out : Vec F S64x100000 .f32) (d : Dev nD) (i : grid0.Coords) : sProp 𝕄 :=
  iprop((scoresLoc d ↦[tileRows i]{fullShare} m (scoresLoc d)) ∗ (allowedLoc d ↦[tileIds i]{fullShare} m (allowedLoc d)) ∗
    (nextLoc d ↦{Transfers.shareTok fullShare 32 (tileNo i)} m (nextLoc d)) ∗ (resultLoc d ↦[tileRows i]{fullShare} out))

instance tilePart_storable (out : Vec F S64x100000 .f32) (d : Dev nD) (i : grid0.Coords) :
    BI.Storable (upEmb : UEmb _ 𝕄) (tilePart m out d i) := by
  unfold tilePart; infer_instance

/-! ## From the launch's pieces to the tile's -/

/-- The rows of a whole array are the tile's four pieces of it. -/
theorem scores_pieces (G : Vec F S64x100000 .f32) :
    (scoresLoc d ↦[tileRows i]{fullShare} G : sProp 𝕄) ⊣⊢
      Rows4 d i scoresM fun h r x => G (cell (rowNo i r.val) (h.start + (x 0).val) (rowNo_lt i r) (within h x)) := by
  have e := rows4_at d i scoresM (F := F) G
  rw [show (tileRows i).map scoresM.view.emb = tileRows i from Finset.map_refl] at e
  exact e

theorem result_pieces (G : Vec F S64x100000 .f32) :
    (resultLoc d ↦[tileRows i]{fullShare} G : sProp 𝕄) ⊣⊢
      Rows4 d i resultM fun h r x => G (cell (rowNo i r.val) (h.start + (x 0).val) (rowNo_lt i r) (within h x)) := by
  have e := rows4_at d i resultM (F := F) G
  rw [show (tileRows i).map resultM.view.emb = tileRows i from Finset.map_refl] at e
  exact e

theorem allowed_pieces :
    (allowedLoc d ↦[tileIds i]{fullShare} m (allowedLoc d) : sProp 𝕄) ⊣⊢
      Ids2 d i allowedM fun r => allowedIds m d (rowNo i r) := by
  have e := ids2_at d i allowedM (F := F) (m (allowedLoc d)) (fun r => allowedIds m d (rowNo i r)) (fun r x => by
    unfold allowedIds
    rw [dif_pos ⟨rowNo_lt i r, (x 0).isLt⟩]
    rfl)
  rw [show (tileIds i).map allowedM.view.emb = tileIds i from Finset.map_refl] at e
  exact e

theorem next_piece (q : PosShare TreeShare) :
    Part d i nextM q (seq (nextFor m d)) = (nextLoc d ↦{q} m (nextLoc d) : sProp 𝕄) := by
  have e := part_at d i nextM q (F := F) (m (nextLoc d))
  rw [show nextM.view.read (Elt F) (m (nextLoc d)) = seq (nextFor m d) from funext fun x => by
    unfold seq nextFor
    rw [dif_pos (show (x 0).val < 256 from (x 0).isLt)]
    show (m (nextLoc d) : Vec F S256 .i32) x = _
    congr 1
    funext a
    match a with
    | 0 => rfl] at e
  rw [e, show nextM.view.set = Finset.univ from View.set_whole _]

/-! ## The tile's own buffers and semaphores -/

/-- A tile's buffer, with whatever it holds. -/
theorem held_any {s : Shape} {e : EltTy} (M : Memref sig .scVector .vmem s e) (hM : M.view.set = Finset.univ) :
    (iprop(∃ f, M.view.loc (thr d i) ↦{fullShare} f) : sProp 𝕄) ⊣⊢ iprop(∃ g, Held (F := F) d i M g) := by
  unfold Held
  rw [hM]
  constructor
  · iintro ⟨%f, H⟩
    iexists M.view.read (Elt F) f
    iexists f
    isplitr
    · ipureintro; rfl
    · iexact H
  · iintro ⟨%g, %f, -, H⟩
    iexists f
    iexact H

/-- The tile's buffers, by name. -/
abbrev bufNames : Finset (Ref sig .scVector) := {cc0_scratch0, cc0_scratch1, cc0_scratch2, cc0_scratch3, cc0_scratch4, cc0_scratch5}

abbrev bufEmb : Ref sig .scVector ↪ DevRef τ sig := ⟨Proc.devRef (Proc.scVector (coreOf i) (tileOf i)), Proc.devRef_injective _⟩

theorem bufNames_own : bufNames.map (bufEmb i) ⊆ ownRefs (τ := τ) (sig := sig) (.scVector (coreOf i) (tileOf i)) := by
  intro y hy
  obtain ⟨b, hb, rfl⟩ := Finset.mem_map.1 hy
  refine SparseCore.Cfg.mem_ownRefs_of_owner ?_
  simp only [bufNames, Finset.mem_insert, Finset.mem_singleton] at hb
  rcases hb with rfl | rfl | rfl | rfl | rfl | rfl <;> rfl

/-- The tile's other buffers. -/
def otherBufs : sProp 𝕄 :=
  bigSep (ownRefs (τ := τ) (sig := sig) (.scVector (coreOf i) (tileOf i)) \ bufNames.map (bufEmb i)) fun b =>
    iprop(∃ f, ((d, b) : Loc nD τ sig) ↦{fullShare} f)

theorem ownBufs_tile : (ownBufs (thr d i) : sProp 𝕄) ⊣⊢
    iprop(Bufs (F := F) d i buf6 buf7 buf8 buf9 buf10 buf11 ∗ otherBufs (F := F) d i) := by
  have e : (ownBufs (thr d i) : sProp 𝕄) = iprop(
      ((∃ f, buf6.view.loc (thr d i) ↦{fullShare} f) ∗ (∃ f, buf7.view.loc (thr d i) ↦{fullShare} f) ∗
        (∃ f, buf8.view.loc (thr d i) ↦{fullShare} f) ∗ (∃ f, buf9.view.loc (thr d i) ↦{fullShare} f) ∗
        (∃ f, buf10.view.loc (thr d i) ↦{fullShare} f) ∗ (∃ f, buf11.view.loc (thr d i) ↦{fullShare} f)) ∗ otherBufs (F := F) d i) := by
    unfold SparseCore.Cfg.ownBufs otherBufs
    rw [show (thr d i).2 = .scVector (coreOf i) (tileOf i) from rfl, SparseCore.bigSep_sdiff_split' (bufNames_own i), BI.bigSep_map]
    unfold bufNames
    rw [SparseCore.bigSep_insert' (by decide), SparseCore.bigSep_insert' (by decide), SparseCore.bigSep_insert' (by decide),
      SparseCore.bigSep_insert' (by decide), SparseCore.bigSep_insert' (by decide), bigSep_singleton]
    rfl
  rw [e]
  unfold Bufs
  rw [BI.Entails.antisymm (held_any d i buf6 (View.set_whole _)).1 (held_any d i buf6 (View.set_whole _)).2,
    BI.Entails.antisymm (held_any d i buf7 (View.set_whole _)).1 (held_any d i buf7 (View.set_whole _)).2,
    BI.Entails.antisymm (held_any d i buf8 (View.set_whole _)).1 (held_any d i buf8 (View.set_whole _)).2,
    BI.Entails.antisymm (held_any d i buf9 (View.set_whole _)).1 (held_any d i buf9 (View.set_whole _)).2,
    BI.Entails.antisymm (held_any d i buf10 (View.set_whole _)).1 (held_any d i buf10 (View.set_whole _)).2,
    BI.Entails.antisymm (held_any d i buf11 (View.set_whole _)).1 (held_any d i buf11 (View.set_whole _)).2]

/-- The tile's semaphores, by name. -/
abbrev semNames : Finset (DmaSem sig) :=
  {cc0_scratch6.sem, cc0_scratch7.sem, cc0_scratch8.sem, cc0_scratch9.sem, cc0_scratch10.sem, cc0_scoped0.sem}

abbrev semEmb : DmaSem sig ↪ GSem nD τ sig := ⟨fun s => (thr d i, .dma s), fun a b h => by
  have := congrArg Prod.snd h
  injection this⟩

theorem semNames_own : semNames.map (semEmb d i) ⊆ ownCells (thr d i) := by
  intro y hy
  obtain ⟨s, hs, rfl⟩ := Finset.mem_map.1 hy
  refine mem_ownCells.mpr ⟨rfl, ?_⟩
  have : ∀ s ∈ semNames, (SemLoc.dma s : SemLoc sig).isScoped .scVector = true := by decide
  exact this s hs

/-- The tile's other semaphores. -/
def otherSems : sProp 𝕄 := bigSep (ownCells (thr d i) \ semNames.map (semEmb d i)) fun g => semVal g 0

theorem ownSems0_tile : (ownSems0 (thr d i) : sProp 𝕄) = iprop(
    Sems (F := F) d i cc0_scratch6 cc0_scratch7 cc0_scratch8 cc0_scratch9 cc0_scratch10 cc0_scoped0 ∗ otherSems (F := F) d i) := by
  unfold SparseCore.Cfg.ownSems0 otherSems Sems
  rw [SparseCore.bigSep_sdiff_split' (semNames_own d i), BI.bigSep_map]
  unfold semNames
  rw [SparseCore.bigSep_insert' (by decide), SparseCore.bigSep_insert' (by decide), SparseCore.bigSep_insert' (by decide),
    SparseCore.bigSep_insert' (by decide), SparseCore.bigSep_insert' (by decide), bigSep_singleton]
  rfl

/-! ## The task -/

/-- What the tile's chunks leave is the result. -/
theorem chunks_result : (fun (h : Half) (r : Fin 2) => chunkOut h (fun r => allowedIds m d (rowNo i r))
      (fun x => (m (scoresLoc d) : Vec F S64x100000 .f32) (cell (rowNo i r.val) (h.start + (x 0).val) (rowNo_lt i r) (within h x)))
      (nextFor m d) (boostAt (nextFor m d)) r) =
    fun h r x => result m d (cell (rowNo i r.val) (h.start + (x 0).val) (rowNo_lt i r) (within h x)) := by
  funext h r x
  unfold chunkOut result
  congr

/-- The kernel's body, as the launch calls it on a tile. -/
abbrev bodyAt : VProg F i PUnit :=
  cc0_k (F := F) i scoresM (Memref.isWhole_whole _) allowedM (Memref.isWhole_whole _) nextM (Memref.isWhole_whole _) resultM
    (Memref.isWhole_whole _) buf6 (Memref.isWhole_whole _) buf7 (Memref.isWhole_whole _) buf8 (Memref.isWhole_whole _) buf9
    (Memref.isWhole_whole _) buf10 (Memref.isWhole_whole _) buf11 (Memref.isWhole_whole _) cc0_scratch6 cc0_scratch7 cc0_scratch8
    cc0_scratch9 cc0_scratch10 cc0_scoped0

theorem tile_run (hF : (K (F := F)).Facts) (O : CellTallies nD τ sig (HIx 1)) (W : Waits sig (HIx 1)) (hO : ∀ g, O g none = 0) :
    iprop(levAts (K (F := F)).L (K (F := F)).lev ∗ emp ∗ tilePart m (m (resultLoc d)) d i
        ∗ scopedBufs (thr d i) ∗ scopedSems0 (thr d i) ∗ owes (thr d i) O W)
      ⊢ twp (F := F) d i (bodyAt i) fun _ => iprop(tilePart m (result m d) d i
            ∗ scopedBufs (thr d i) ∗ scopedSems0 (thr d i)
            ∗ ∃ W', ⌜∀ p ∈ W', p ∈ W ∨ p.2 = none⌝ ∗ owes (thr d i) O W') := by
  have run := body_run d i scoresM (Memref.isWhole_whole _) allowedM (Memref.isWhole_whole _) nextM (Memref.isWhole_whole _) resultM
    (Memref.isWhole_whole _) buf6 (Memref.isWhole_whole _) buf7 (Memref.isWhole_whole _) buf8 (Memref.isWhole_whole _) buf9
    (Memref.isWhole_whole _) buf10 (Memref.isWhole_whole _) buf11 (Memref.isWhole_whole _) cc0_scratch6 cc0_scratch7 cc0_scratch8
    cc0_scratch9 cc0_scratch10 cc0_scoped0
    (fun h r x => (m (scoresLoc d) : Vec F S64x100000 .f32) (cell (rowNo i r.val) (h.start + (x 0).val) (rowNo_lt i r) (within h x)))
    (fun h r x => (m (resultLoc d) : Vec F S64x100000 .f32) (cell (rowNo i r.val) (h.start + (x 0).val) (rowNo_lt i r) (within h x)))
    (fun r => allowedIds m d (rowNo i r)) (nextFor m d) (Transfers.shareTok fullShare 32 (tileNo i)) O W
  rw [chunks_result d i m] at run
  unfold Waiting at run
  rw [(K (F := F)).scopedBufs_V hF d (coreOf i) (tileOf i), SparseCore.Cfg.scopedSems0_V (Val := Elt F) d (coreOf i) (tileOf i), ownSems0_tile]
  unfold tilePart
  iintro ⟨#Hlv, -, ⟨Hs, Ha, Hn, Ho⟩, Hb, ⟨Hsem, Hsems⟩, HO⟩
  ihave Hmw := (show levAts (K (F := F)).L (K (F := F)).lev ⊢ Transfers.MayWaits (thr d i) (none : HIx 1) O from
    (K (F := F)).mayWaits_none (thr := thr d i) hO) $$ Hlv
  ihave Hb := (ownBufs_tile d i).1 $$ Hb
  icases Hb with ⟨Hb, Hbs⟩
  iapply (twp_end d i)
  iapply (twp_then d i run) $$ [Hs Ha Hn Ho Hb Hsem HO Hmw]
  · isplitl [Hs]; · iapply (scores_pieces d i _).1; iexact Hs
    isplitl [Ho]; · iapply (result_pieces d i _).1; iexact Ho
    isplitl [Ha]; · iapply (allowed_pieces d i m).1; iexact Ha
    isplitl [Hn]; · iapply (Entails.of_eq (next_piece d i m _).symm); iexact Hn
    isplitl [Hb]; · iexact Hb
    isplitl [Hsem]; · iexact Hsem
    isplitl [Hmw]; · iexact Hmw
    iexists W
    isplitr
    · ipureintro; exact fun p hp => .inl hp
    · iexact HO
  iintro %_ ⟨Hs, Ho, Ha, Hn, Hb, Hsem, ⟨-, HO⟩⟩
  iapply twp_pure
  isplitl [Hs Ho Ha Hn]
  · isplitl [Hs]; · iapply (scores_pieces d i _).2; iexact Hs
    isplitl [Ha]; · iapply (allowed_pieces d i m).2; iexact Ha
    isplitl [Hn]; · iapply (Entails.of_eq (next_piece d i m _)); iexact Hn
    iapply (result_pieces d i _).2; iexact Ho
  isplitl [Hb Hbs]
  · iapply (ownBufs_tile d i).2
    isplitl [Hb] <;> iassumption
  isplitl [Hsem Hsems]
  · isplitl [Hsem] <;> iassumption
  iexact HO

end Cert.Proof
-- ==== Proof.Launch.lean ====
module

public import proofs.«01_k».proof.Proof.Tile
public import Idealize.ShloMosaic.Lib.SparseCore.Quiescent

@[expose] public section

/-! # The kernel's launch

The arrays are dealt among the thirty-two tiles and gathered again; so the kernel leaves the result and its arguments
as they were. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits Batch)

variable {F : FTy → Type} [FloatOps F]

local notation "𝕄" => MT nD τ sig (HIx 1) (Elt F) ℕ UU ℕ

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The place of tile `s` of core `c` in the grid. -/
def spot (c : Fin 2) (s : Fin 16) : grid0.Coords :=
  fun | 0 => c | 1 => s | ⟨_ + 2, h⟩ => absurd h (Nat.not_lt.2 (Nat.le_add_left _ _))

/-! ## Dealing the arrays -/

theorem spot_inj {p q : Fin 2 × Fin 16} (h : 2 * (spot p.1 p.2 1).val + (spot p.1 p.2 0).val = 2 * (spot q.1 q.2 1).val + (spot q.1 q.2 0).val) :
    p = q := by
  have h' : 2 * p.2.val + p.1.val = 2 * q.2.val + q.1.val := h
  have h1 := p.1.isLt
  have h2 := q.1.isLt
  exact Prod.ext (Fin.ext (by omega)) (Fin.ext (by omega))

theorem spot_onto (n : ℕ) (h : n < 32) : ∃ p : Fin 2 × Fin 16, n = 2 * (spot p.1 p.2 1).val + (spot p.1 p.2 0).val :=
  ⟨(⟨n % 2, by omega⟩, ⟨n / 2, by omega⟩), by show n = 2 * (n / 2) + n % 2; omega⟩

theorem rows_disjoint : ∀ p ∈ (Finset.univ : Finset (Fin 2 × Fin 16)), ∀ q ∈ (Finset.univ : Finset (Fin 2 × Fin 16)), p ≠ q →
    Disjoint (tileRows (spot p.1 p.2)) (tileRows (spot q.1 q.2)) := by
  intro p _ q _ hne
  rw [Finset.disjoint_left]
  intro j hp hq
  unfold tileRows at hp hq
  exact hne (spot_inj ((Finset.mem_filter.1 hp).2.symm.trans (Finset.mem_filter.1 hq).2))

theorem rows_cover : (Finset.univ : Finset (Fin 2 × Fin 16)).biUnion (fun p => tileRows (spot p.1 p.2)) = Finset.univ := by
  refine Finset.eq_univ_of_forall fun j => ?_
  have hj : (j 0).val < 64 := (j 0).isLt
  obtain ⟨p, hp⟩ := spot_onto ((j 0).val / 2) (by omega)
  unfold tileRows
  exact Finset.mem_biUnion.2 ⟨p, Finset.mem_univ _, Finset.mem_filter.2 ⟨Finset.mem_univ _, hp⟩⟩

theorem ids_disjoint : ∀ p ∈ (Finset.univ : Finset (Fin 2 × Fin 16)), ∀ q ∈ (Finset.univ : Finset (Fin 2 × Fin 16)), p ≠ q →
    Disjoint (tileIds (spot p.1 p.2)) (tileIds (spot q.1 q.2)) := by
  intro p _ q _ hne
  rw [Finset.disjoint_left]
  intro j hp hq
  unfold tileIds at hp hq
  exact hne (spot_inj ((Finset.mem_filter.1 hp).2.symm.trans (Finset.mem_filter.1 hq).2))

theorem ids_cover : (Finset.univ : Finset (Fin 2 × Fin 16)).biUnion (fun p => tileIds (spot p.1 p.2)) = Finset.univ := by
  refine Finset.eq_univ_of_forall fun j => ?_
  have hj : (j 0).val < 64 := (j 0).isLt
  obtain ⟨p, hp⟩ := spot_onto ((j 0).val / 2) (by omega)
  unfold tileIds
  exact Finset.mem_biUnion.2 ⟨p, Finset.mem_univ _, Finset.mem_filter.2 ⟨Finset.mem_univ _, hp⟩⟩

/-- The tiles, numbered. -/
def tileEquiv : Fin 2 × Fin 16 ≃ Fin 32 := Equiv.ofBijective (fun p => tileNo (spot p.1 p.2))
  ⟨fun _ _ h => spot_inj (congrArg Fin.val h), fun n => (spot_onto n.val n.isLt).imp fun _ h => Fin.ext h.symm⟩

theorem scores_dealt (d : Dev nD) (f : Buf (Elt F) (scoresLoc d)) : (scoresLoc d ↦{fullShare} f : sProp 𝕄) =
    bigSep Finset.univ fun p : Fin 2 × Fin 16 => scoresLoc d ↦[tileRows (spot p.1 p.2)]{fullShare} f := by
  rw [← pointsTo_biUnion Finset.univ (ℓ := scoresLoc d) (fun p : Fin 2 × Fin 16 => tileRows (spot p.1 p.2)) rows_disjoint, rows_cover]
  try rfl

theorem result_dealt (d : Dev nD) (f : Buf (Elt F) (resultLoc d)) : (resultLoc d ↦{fullShare} f : sProp 𝕄) =
    bigSep Finset.univ fun p : Fin 2 × Fin 16 => resultLoc d ↦[tileRows (spot p.1 p.2)]{fullShare} f := by
  rw [← pointsTo_biUnion Finset.univ (ℓ := resultLoc d) (fun p : Fin 2 × Fin 16 => tileRows (spot p.1 p.2)) rows_disjoint, rows_cover]
  try rfl

theorem allowed_dealt (d : Dev nD) (f : Buf (Elt F) (allowedLoc d)) : (allowedLoc d ↦{fullShare} f : sProp 𝕄) =
    bigSep Finset.univ fun p : Fin 2 × Fin 16 => allowedLoc d ↦[tileIds (spot p.1 p.2)]{fullShare} f := by
  rw [← pointsTo_biUnion Finset.univ (ℓ := allowedLoc d) (fun p : Fin 2 × Fin 16 => tileIds (spot p.1 p.2)) ids_disjoint, ids_cover]
  try rfl

/-- What is left of the boosted ids' share when every tile has its own. -/
abbrev nextRest (d : Dev nD) : sProp 𝕄 := nextLoc d ↦{Transfers.shareDrop fullShare 32} m (nextLoc d)

theorem next_dealt (d : Dev nD) : (nextLoc d ↦{fullShare} m (nextLoc d) : sProp 𝕄) =
    iprop(nextRest m d ∗ bigSep Finset.univ fun p : Fin 2 × Fin 16 =>
      nextLoc d ↦{Transfers.shareTok fullShare 32 (tileNo (spot p.1 p.2))} m (nextLoc d)) := by
  have e := Transfers.pointsTo_toks (ℓ := nextLoc d) (S := Finset.univ) (f := m (nextLoc d)) (Val := Elt F) (Ix := HIx 1) (Name := ℕ) (U := UU) (Lvl := ℕ) fullShare 32
  rw [BI.Entails.antisymm e.1 e.2, BI.bigSep_univ_equiv tileEquiv]
  rfl

/-- What the tiles work on, all of it, the result holding `out`. -/
def allTiles (out : Vec F S64x100000 .f32) (d : Dev nD) : sProp 𝕄 :=
  bigSep Finset.univ fun c : Fin 2 => bigSep Finset.univ fun s : Fin 16 => tilePart m out d (spot c s)

theorem dealt (out : Vec F S64x100000 .f32) (d : Dev nD) :
    (iprop((scoresLoc d ↦{fullShare} m (scoresLoc d)) ∗ (allowedLoc d ↦{fullShare} m (allowedLoc d)) ∗
      (nextLoc d ↦{fullShare} m (nextLoc d)) ∗ (resultLoc d ↦{fullShare} out)) : sProp 𝕄) ⊣⊢ iprop(nextRest m d ∗ allTiles m out d) := by
  have e : allTiles m out d = iprop(
      (bigSep Finset.univ fun p : Fin 2 × Fin 16 => scoresLoc d ↦[tileRows (spot p.1 p.2)]{fullShare} m (scoresLoc d)) ∗
      (bigSep Finset.univ fun p : Fin 2 × Fin 16 => allowedLoc d ↦[tileIds (spot p.1 p.2)]{fullShare} m (allowedLoc d)) ∗
      (bigSep Finset.univ fun p : Fin 2 × Fin 16 => nextLoc d ↦{Transfers.shareTok fullShare 32 (tileNo (spot p.1 p.2))} m (nextLoc d)) ∗
      (bigSep Finset.univ fun p : Fin 2 × Fin 16 => resultLoc d ↦[tileRows (spot p.1 p.2)]{fullShare} out)) := by
    rw [show allTiles m out d = bigSep Finset.univ fun p : Fin 2 × Fin 16 => tilePart m out d (spot p.1 p.2) from
      (BI.bigSep_univ_prod (α := Fin 2) (β := Fin 16) (fun p => tilePart m out d (spot p.1 p.2))).symm]
    unfold tilePart
    rw [bigSep_sep', bigSep_sep', bigSep_sep']
  rw [e, scores_dealt, allowed_dealt, next_dealt, result_dealt]
  constructor
  · iintro ⟨Hs, Ha, ⟨Hr, Hn⟩, Ho⟩
    isplitl [Hr]; · iexact Hr
    isplitl [Hs]; · iexact Hs
    isplitl [Ha]; · iexact Ha
    isplitl [Hn] <;> iassumption
  · iintro ⟨Hr, Hs, Ha, Hn, Ho⟩
    isplitl [Hs]; · iexact Hs
    isplitl [Ha]; · iexact Ha
    isplitl [Hr Hn]; · isplitl [Hr] <;> iassumption
    iexact Ho

/-! ## What the launch carries -/

/-- Each core takes its tiles' work and brings it back with the result in. -/
def P : (K (F := F)).Pay (nD := nD) (Val := Elt F) (Name := ℕ) (U := UU) where
  st := fun q d c => match q with | 0 => bigSep Finset.univ fun s : Fin 16 => tilePart m (m (resultLoc d)) d (spot c s)
  dn := fun q d c => match q with | 0 => bigSep Finset.univ fun s : Fin 16 => tilePart m (result m d) d (spot c s)
  go := fun q d c s => match q with | 0 => tilePart m (m (resultLoc d)) d (spot c s)
  td := fun q d c s => match q with | 0 => tilePart m (result m d) d (spot c s)
  x := fun _ _ => iprop(emp)

instance P_storable : (P (F := F) m).IsStorable where
  st q d c := match q with
    | 0 => (inferInstance : BI.Storable (upEmb : UEmb _ 𝕄) (bigSep Finset.univ fun s : Fin 16 => tilePart m (m (resultLoc d)) d (spot c s)))
  dn q d c := match q with
    | 0 => (inferInstance : BI.Storable (upEmb : UEmb _ 𝕄) (bigSep Finset.univ fun s : Fin 16 => tilePart m (result m d) d (spot c s)))
  go q d c s := match q with | 0 => tilePart_storable m (m (resultLoc d)) d (spot c s)
  td q d c s := match q with | 0 => tilePart_storable m (result m d) d (spot c s)

/-! ## The tile's obligation -/

theorem defs₀_vector (c : Fin τ.nSC) (s : Fin τ.nSub) :
    defs₀ (F := F) (.scVector c s) 0 () = SparseCore.onTile hcore0 hsub0 (fun c s => bodyAt (spot c s)) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ (SparseCore.Cfg.Blocks.one 1).blk q p.2⌝ ∗ owes th O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tile_obl (d : Dev nD) (i : grid0.Coords) (hF : (K (F := F)).Facts) (O : CellTallies nD τ sig (HIx 1)) (W : Waits sig (HIx 1))
    (hO : ∀ g, O g none = 0) (q : Fin 1) :
    iprop(levAts (K (F := F)).L (K (F := F)).lev ∗ emp ∗ tilePart m (m (resultLoc d)) d i
        ∗ scopedBufs (thr d i) ∗ scopedSems0 (thr d i) ∗ owes (thr d i) O W)
      ⊢ twp (F := F) d i (bodyAt i) fun _ => iprop(tilePart m (result m d) d i
            ∗ scopedBufs (thr d i) ∗ scopedSems0 (thr d i)
            ∗ ∃ W', ⌜∀ p ∈ W', p ∈ W ∨ p.2 = none ∨ (SparseCore.Cfg.Blocks.one 1).blk q p.2⌝ ∗ owes (thr d i) O W') :=
  (tile_run d i m hF O W hO).trans (wp_mono frame _ _ fun _ => obl_post)

-- the kernel printed is long, and the two ways of writing its body are compared piece by piece
set_option maxRecDepth 16384 in
theorem tileObl (hF : (K (F := F)).Facts) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact tile_obl m d (spot ⟨_, hcs.1⟩ ⟨_, hcs.2⟩) hF O W hO 0

theorem vecSplit : (K (F := F)).VecSplit' (P m) 0 := by
  intro d c
  show (bigSep Finset.univ fun s : Fin 16 => tilePart m (m (resultLoc d)) d (spot c s)) ⊢ |={Set.univ}=> iprop(
    (bigSep Finset.univ fun s : Fin 16 => tilePart m (m (resultLoc d)) d (spot c s)) ∗
      ((bigSep Finset.univ fun s : Fin 16 => tilePart m (result m d) d (spot c s)) -∗
        (bigSep Finset.univ fun s : Fin 16 => tilePart m (result m d) d (spot c s))))
  iintro H
  imodintro
  isplitl [H]; · iexact H
  iintro H
  iexact H

/-! ## The launch's ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_nothing]
  iempintro

/-! ## The main program -/

theorem arrays_eq (d : Dev nD) (W : (b : Ref sig .tc) → Buf (Elt F) ((d.tc : Thread nD τ).loc b)) :
    (unscopedBufs d W : sProp 𝕄) = iprop((inputLoc d ↦{fullShare} W main_arg0) ∗ (scoresLoc d ↦{fullShare} W main_arg1) ∗
      (allowedLoc d ↦{fullShare} W main_arg2) ∗ (nextLoc d ↦{fullShare} W main_arg3) ∗ (resultLoc d ↦{fullShare} W main_v0)) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- The arrays at the end. -/
abbrev FIN (d : Dev nD) : sProp 𝕄 :=
  iprop((inputLoc d ↦{fullShare} m (inputLoc d)) ∗ (scoresLoc d ↦{fullShare} m (scoresLoc d)) ∗ (allowedLoc d ↦{fullShare} m (allowedLoc d)) ∗
    (nextLoc d ↦{fullShare} m (nextLoc d)) ∗ (resultLoc d ↦{fullShare} result m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hi, Hs, Ha, Hn, Ho⟩, Hts, -⟩, -⟩
  ihave H := (dealt m (m (resultLoc d)) d).1 $$ [Hs Ha Hn Ho]
  · isplitl [Hs]; · iexact Hs
    isplitl [Ha]; · iexact Ha
    isplitl [Hn] <;> iassumption
  icases H with ⟨Hr, H⟩
  iapply ((K (F := F)).wp_run (D (F := F)) 𝒱 (EH := EH) (P := P m) κ d 0) $$ [Hst H Hi Hr Hb Hts]
  isplitr; · iexact Hctx
  isplitl [Hst]; · iexact Hst
  isplitl [H]
  · iapply (show allTiles m (m (resultLoc d)) d ⊢ (bigSep Finset.univ fun c : Fin ((K (F := F)).nCore 0) => (P m).st 0 d c) from .refl)
    iexact H
  iintro ⟨Hst, Hdn⟩
  ihave H := (show (bigSep Finset.univ fun c : Fin ((K (F := F)).nCore 0) => (P m).dn 0 d c) ⊢ allTiles m (result m d) d from .refl) $$ Hdn
  ihave H := (dealt m (result m d) d).2 $$ [Hr H]
  · isplitl [Hr] <;> iassumption
  imodintro
  isplitl [Hst]; · iexact Hst
  isplitr [Hb Hts]
  · isplitl [Hi] <;> iassumption
  isplitl [Hb] <;> iassumption

/-- What the end is to say of the memory. -/
def fq (d : Dev nD) (s' : Phys nD τ sig (Elt F)) : Prop :=
  s'.mem.mem (resultLoc d) = result m d ∧ s'.mem.mem (inputLoc d) = m (inputLoc d) ∧ s'.mem.mem (scoresLoc d) = m (scoresLoc d) ∧
    s'.mem.mem (allowedLoc d) = m (allowedLoc d) ∧ s'.mem.mem (nextLoc d) = m (nextLoc d)

theorem agrees (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hi, Hs, Ha, Hn, Ho⟩, HSI⟩
  ihave H := (agrees s' (inputLoc d) _) $$ [Hi HSI]
  · isplitl [Hi] <;> iassumption
  icases H with ⟨%hi, HSI⟩
  ihave H := (agrees s' (scoresLoc d) _) $$ [Hs HSI]
  · isplitl [Hs] <;> iassumption
  icases H with ⟨%hs, HSI⟩
  ihave H := (agrees s' (allowedLoc d) _) $$ [Ha HSI]
  · isplitl [Ha] <;> iassumption
  icases H with ⟨%ha, HSI⟩
  ihave H := (agrees s' (nextLoc d) _) $$ [Hn HSI]
  · isplitl [Hn] <;> iassumption
  icases H with ⟨%hn, HSI⟩
  ihave H := (agrees s' (resultLoc d) _) $$ [Ho HSI]
  · isplitl [Ho] <;> iassumption
  icases H with ⟨%ho, HSI⟩
  ipureintro
  exact ⟨ho, hi, hs, ha, hn⟩

/-! ## The run -/

/-- How the kernel ends: the result in place, the arguments as they were, every semaphore at zero. -/
def QC : PUnit × MemSt nD τ sig (Elt F) → Prop := fun r =>
  (∀ c : Dev nD, r.2.mem (resultLoc c) = result m c ∧ r.2.mem (inputLoc c) = m (inputLoc c) ∧ r.2.mem (scoresLoc c) = m (scoresLoc c) ∧
    r.2.mem (allowedLoc c) = m (allowedLoc c) ∧ r.2.mem (nextLoc c) = m (nextLoc c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Boost.lean ====
module

public import proofs.«01_k».proof.Proof.Scatter
public import Idealize.ShloMosaic.PureOps.Ideal

@[expose] public section

/-! # The boosts over the extended reals

Tags are distinct numbers here, so of the boosted ids that name one position exactly the last has a boost, of 3,
and a position is raised once: by 3 if an id names it, by nothing otherwise. -/

noncomputable section

namespace Cert.Proof

open Idealize.ShloMosaic
open Cert.KernelIdeal Cert.KernelIdeal.Gen

variable (nf : ℕ → BitVec 32)

/-- The boost of a position that an id names. -/
def three : EReal := Ideal.ofBits .f32 0x40400000#32

theorem three_pos : (0 : EReal) < three := by
  unfold three
  simp [Ideal.ofBits, Ideal.ieee, -EReal.coe_mul]

theorem zero_bits : Ideal.ofBits .f32 0x00000000#32 = 0 := by simp [Ideal.ofBits, Ideal.ieee]

theorem tagAt_real (l : ℕ) (hl : l < 256) : tagAt (F := Ideal) l = (((l : ℤ) + 1 : ℤ) : ℝ) := by
  have e : (lanes (lane ⟨l % 16, Nat.mod_lt _ (by decide)⟩) + BitVec.ofNat 32 (16 * (l / 16) + 1) : BitVec 32)
      = BitVec.ofNat 32 (l + 1) := by
    have h1 : lanes (lane ⟨l % 16, Nat.mod_lt _ (by decide)⟩) = BitVec.ofNat 32 (l % 16) := by
      show BitVec.ofNat 32 (0 * 16 + l % 16) = _
      rw [Nat.zero_mul, Nat.zero_add]
    rw [h1, ← BitVec.ofNat_add]
    congr 1
    omega
  show (((lanes (lane ⟨l % 16, Nat.mod_lt _ (by decide)⟩) + BitVec.ofNat 32 (16 * (l / 16) + 1) : BitVec 32).toInt : ℝ) : EReal) = _
  rw [e, WordArith.toInt_ofNat_small _ (by omega)]
  norm_cast

theorem tagAt_inj (a b : ℕ) (ha : a < 256) (hb : b < 256) : tagAt (F := Ideal) a = tagAt (F := Ideal) b ↔ a = b := by
  rw [tagAt_real a ha, tagAt_real b hb, EReal.coe_eq_coe_iff, Int.cast_inj]
  omega

theorem oeq_iff (x y : Ideal .f32) : FloatOps.cmpf (F := Ideal) .oeq x y = 1 ↔ x = y := by
  show BitVec.ofBool (decide (x = y)) = 1 ↔ _
  rw [WordArith.ofBool_eq_numeral_one_iff, decide_eq_true_eq]

theorem ogt_iff (x y : Ideal .f32) : FloatOps.cmpf (F := Ideal) .ogt x y = 1 ↔ (show EReal from y) < x := by
  show BitVec.ofBool (decide ((show EReal from y) < x)) = 1 ↔ _
  rw [WordArith.ofBool_eq_numeral_one_iff, decide_eq_true_eq]

theorem earnedAt_ideal (h : Half) (l : ℕ) (hl : l < 256) :
    h.earnedAt (F := Ideal) nf l = if h.has (nf l) ∧ lastOf nf l = l then three else 0 := by
  unfold Half.earnedAt
  refine if_congr (and_congr_right fun _ => ?_) rfl zero_bits
  rw [oeq_iff, tagAt_inj _ _ (lastOf_lt nf l) hl]

/-- An id that names a position has a boost exactly when it is the last that does. -/
theorem boostAt_ideal (l : ℕ) (hl : l < 256) (hp : (nf l).toNat < 100000) :
    boostAt (F := Ideal) nf l = if lastOf nf l = l then three else 0 := by
  show low.earnedAt (F := Ideal) nf l + high.earnedAt (F := Ideal) nf l = _
  rw [earnedAt_ideal nf low l hl, earnedAt_ideal nf high l hl]
  have hlow : low.has (nf l) ↔ (nf l).toNat < 50048 := by
    show 0 ≤ (nf l).toNat ∧ (nf l).toNat < 0 + 50048 ↔ _
    omega
  have hhigh : high.has (nf l) ↔ ¬ (nf l).toNat < 50048 := by
    show 50048 ≤ (nf l).toNat ∧ (nf l).toNat < 50048 + 49952 ↔ _
    omega
  by_cases h1 : lastOf nf l = l <;> by_cases h2 : (nf l).toNat < 50048 <;> simp [hlow, hhigh, h1, h2]

theorem raises_iff (p l : ℕ) (hl : l < 256) (hp : p < 100000) :
    Raises (F := Ideal) nf (boostAt nf) p l ↔ (nf l).toNat = p ∧ lastOf nf l = l := by
  unfold Raises
  refine and_congr_right fun h1 => ?_
  rw [ogt_iff, boostAt_ideal nf l hl (h1 ▸ hp)]
  show Ideal.ofBits .f32 0x00000000#32 < _ ↔ _
  rw [zero_bits]
  by_cases h2 : lastOf nf l = l
  · simp [h2, three_pos]
  · simp [h2]

section
variable {α : Type} (H : ℕ → Prop) [DecidablePred H] (g : α → ℕ → α) (y : α)

theorem fold_never (m : ℕ) (h : ∀ l, l < m → ¬ H l) :
    (List.range m).foldl (fun y l => if H l then g y l else y) y = y := by
  induction m with
  | zero => rfl
  | succ m ih =>
    rw [List.range_succ, List.foldl_append, ih fun l hl => h l (by omega)]
    exact if_neg (h m (by omega))

theorem fold_once (m k : ℕ) (hk : k < m) (hH : H k) (h : ∀ l, l < m → H l → l = k) :
    (List.range m).foldl (fun y l => if H l then g y l else y) y = g y k := by
  induction m with
  | zero => omega
  | succ m ih =>
    rw [List.range_succ, List.foldl_append]
    by_cases e : k = m
    · subst e
      rw [fold_never H g y k fun l hl hl' => by have := h l (by omega) hl'; omega]
      exact if_pos hH
    · rw [ih (by omega) fun l hl => h l (by omega)]
      exact if_neg fun hm => e (h m (by omega) hm).symm

end

theorem lastOf_self (l : ℕ) (hl : l < 256) : lastOf nf (lastOf nf l) = lastOf nf l := by
  have h := lastOf_eq nf l hl
  show Nat.findGreatest (fun l' => nf l' = nf (lastOf nf l)) 255 = Nat.findGreatest (fun l' => nf l' = nf l) 255
  rw [h]

open Classical in
theorem raised_named (p : ℕ) (hp : p < 100000) (y : Ideal .f32) (l : ℕ) (hl : l < 256) (e : (nf l).toNat = p) :
    raised (F := Ideal) nf (boostAt nf) p 256 y = FloatOps.idxAddf y (boostAt nf (lastOf nf l)) := by
  have h1 := lastOf_lt nf l
  have h2 := lastOf_eq nf l hl
  have h3 := (raises_iff nf p _ h1 hp).2 ⟨by rw [h2, e], lastOf_self nf l hl⟩
  unfold raised
  refine fold_once (α := Ideal .f32) (Raises (F := Ideal) nf (boostAt nf) p) (fun y l => FloatOps.idxAddf y (boostAt nf l)) y
    256 (lastOf nf l) h1 h3 fun l' hl' hr => ?_
  obtain ⟨h4, h5⟩ := (raises_iff nf p l' hl' hp).1 hr
  have h6 : nf l' = nf l := BitVec.eq_of_toNat_eq (h4.trans e.symm)
  rw [← h5]
  show Nat.findGreatest (fun l'' => nf l'' = nf l') 255 = Nat.findGreatest (fun l'' => nf l'' = nf l) 255
  rw [h6]

open Classical in
theorem raised_not (p : ℕ) (hp : p < 100000) (y : Ideal .f32) (h : ∀ l, l < 256 → (nf l).toNat ≠ p) :
    raised (F := Ideal) nf (boostAt nf) p 256 y = y := by
  unfold raised
  exact fold_never (α := Ideal .f32) (Raises (F := Ideal) nf (boostAt nf) p) (fun y l => FloatOps.idxAddf y (boostAt nf l)) y
    256 fun l hl hr => h l hl ((raises_iff nf p l hl hp).1 hr).1

open Classical in
/-- A position is raised by 3 if one of the ids names it, and by nothing otherwise. -/
theorem raised_ideal (p : ℕ) (hp : p < 100000) (y : Ideal .f32) :
    raised (F := Ideal) nf (boostAt nf) p 256 y = if ∃ l, l < 256 ∧ (nf l).toNat = p then (y : EReal) + three else y := by
  by_cases hex : ∃ l, l < 256 ∧ (nf l).toNat = p
  · obtain ⟨l, hl, e⟩ := hex
    have h1 := lastOf_lt nf l
    have h2 := lastOf_eq nf l hl
    rw [if_pos ⟨l, hl, e⟩, raised_named nf p hp y l hl e, boostAt_ideal nf _ h1 (by rw [h2, e]; exact hp),
      if_pos (lastOf_self nf l hl)]
    rfl
  · rw [if_neg hex]
    exact raised_not nf p hp y fun l hl hr => hex ⟨l, hl, hr⟩

end Cert.Proof

end
-- ==== Proof.Ref.lean ====
module

public import proofs.«01_k».proof.Proof.Gen.ReferenceIdeal.Read
public import Idealize.ShloMosaic.Lib.Routing.OpsSet
public import Idealize.ShloMosaic.Lib.Routing.OpsPair

@[expose] public section

/-! # The reference, read at a position

Where no id is negative, the reference's two masks hold exactly at the positions that their ids name. -/

noncomputable section

namespace Cert.Proof.Ref

open Idealize.ShloMosaic Idealize.ShloMosaic.Routing Idealize.ShloMosaic.ValueIdx
open Cert.ReferenceIdeal Cert.ReferenceIdeal.Gen Cert.ReferenceIdeal.Read

variable {F : FTy → Type} [FloatOps F]

/-! ## The allowed positions -/

section
variable (x2 : IVec S64x512 32) (hx : ∀ k, (x2 k).toNat < 2 ^ 31)

theorem row_word (a : Fin 64) (b : Fin 512) : val_main_v16 (F := F) x2 (ix3 a b (0 : Fin 2)) = BitVec.ofNat 32 a.val := by
  unfold val_main_v16
  refine (concatenate_pair_apply_left (t := S64x512x2) (s₁ := S64x512x1) (s₂ := S64x512x1) 2 _ _ _ (ix3 a b 0) rfl
    (ix3 a b (0 : Fin 1)) (fun q => by fin_cases q <;> rfl)).trans ?_
  rw [val_main_v14_apply, val_main_v13_apply, val_main_v7_apply, val_main_v4_apply, val_main_v3_apply, val_main_c_0_apply,
    val_main_v1_apply, val_main_v0_apply]
  have ha := a.isLt
  have hw : (BitVec.ofNat 32 a.val).toNat < 2 ^ (32 - 1) := by rw [BitVec.toNat_ofNat]; omega
  exact wrap_of_lt (BitVec.ofNat 32 a.val) _ hw

include hx in
theorem column_word (a : Fin 64) (b : Fin 512) : val_main_v16 (F := F) x2 (ix3 a b (1 : Fin 2)) = x2 (ix2 a b) := by
  unfold val_main_v16
  refine (concatenate_pair_apply_right (t := S64x512x2) (s₁ := S64x512x1) (s₂ := S64x512x1) 2 _ _ _ (ix3 a b 1) rfl rfl
    (ix3 a b (0 : Fin 1)) (fun q hq => by fin_cases q <;> first | rfl | exact absurd rfl hq) rfl).trans ?_
  rw [val_main_v15_apply, val_main_v12_apply, val_main_v9_apply, val_main_v8_apply, val_main_c_2_apply]
  have e : idx_main_v15 (ix3 a b (0 : Fin 1)) = ix2 a b := funext fun q => by fin_cases q <;> rfl
  rw [e]
  exact wrap_of_lt (x2 (ix2 a b)) _ (hx _)

include hx in
theorem lands_allowed (a : Fin 64) (b : Fin 512) (r : Fin 64) (c : Fin 100000) :
    scatter_S64x100000_S64x512x2_S64x512_n_01_01_2.resultIdx? (ix2 a b) (val_main_v16 (F := F) x2) = some (ix2 r c) ↔
      a = r ∧ (x2 (ix2 a b)).toNat = c.val := by
  rw [scatter_lands2 _ rfl rfl rfl, row_word, column_word x2 hx]
  have h1 := a.isLt
  have h2 := hx (ix2 a b)
  have h3 : (BitVec.ofNat 32 a.val).toInt = (a.val : ℤ) := by
    rw [BitVec.toInt_eq_toNat_of_lt (by rw [BitVec.toNat_ofNat]; omega), BitVec.toNat_ofNat]; omega
  rw [h3, BitVec.toInt_eq_toNat_of_lt (by omega), Fin.ext_iff]
  omega

include hx in
open Classical in
/-- The first mask at row `r`, position `c`: whether one of the row's ids names the position. -/
theorem allowed_at (r : Fin 64) (c : Fin 100000) :
    val_main_v18 (F := F) x2 (ix2 r c) = if ∃ b, (x2 (ix2 r b)).toNat = c.val then 1#1 else 0#1 := by
  unfold val_main_v18
  by_cases h : ∃ b, (x2 (ix2 r b)).toNat = c.val
  · obtain ⟨b, hb⟩ := h
    rw [if_pos ⟨b, hb⟩]
    exact scatter_set_hit _ _ _ _ _ _ (fun k _ => by rw [val_main_v17_apply, val_main_c_4_apply]) (ix2 r b)
      ((lands_allowed x2 hx r b r c).2 ⟨rfl, hb⟩)
  · rw [if_neg h, scatter_set_miss, val_main_v2_apply, val_main_c_apply]
    intro k hk
    rw [eq_ix2 k] at hk
    obtain ⟨rfl, hb⟩ := (lands_allowed x2 hx _ _ r c).1 hk
    exact h ⟨_, hb⟩

end

/-! ## The boosted positions -/

section
variable (x3 : IVec S256 32) (hx : ∀ k, (x3 k).toNat < 2 ^ 31)

include hx in
theorem boost_word (a : Fin 256) : val_main_v26 (F := F) x3 (ix2 a (0 : Fin 1)) = x3 (ix1 a) := by
  rw [val_main_v26_apply, val_main_v25_apply, val_main_v22_apply, val_main_v21_apply, val_main_c_6_apply]
  have e : idx_main_v26 (ix2 a (0 : Fin 1)) = ix1 a := funext fun q => by fin_cases q; rfl
  rw [e]
  exact wrap_of_lt (x3 (ix1 a)) _ (hx _)

/-- An update of a scatter into a vector, one index word each, lands where its word says. -/
theorem lands_vector {n m w : ℕ} (d : ScatterDims (shape1 n) (shape2 m 1) (shape1 m)) (hi : d.insertedWindowDims = [0])
    (hs : d.scatterDimsToOperandDims = [0]) (hv : d.indexVectorDim = 1) (idx : IVec (shape2 m 1) w) (i : Fin m) (x : Fin n) :
    d.resultIdx? (ix1 i) idx = some (ix1 x) ↔ (idx (ix2 i (0 : Fin 1))).toInt = (x.val : ℤ) := by
  have hm : (0 : Fin 1) ∈ d.scatterDimsToOperandDims := by rw [hs]; exact List.mem_singleton.2 rfl
  have hw : d.window (ix1 i) 0 = 0 := by
    unfold ScatterDims.window
    exact dif_neg fun h => (of_decide_eq_true (List.mem_filter.1 h).2) (by rw [hi]; exact List.mem_singleton.2 rfl)
  have hsi : d.siIdx (ix1 i) ⟨d.scatterDimsToOperandDims.idxOf 0, List.idxOf_lt_length_iff.2 hm⟩ = ix2 i (0 : Fin 1) := by
    funext q
    apply Fin.ext
    match q with
    | ⟨0, _⟩ =>
      have hc : ∀ z : Fin 1, (ix1 i z).val = i.val := fun z => by
        obtain rfl : z = 0 := Subsingleton.elim _ _
        rfl
      unfold ScatterDims.siIdx
      split
      · next h => rw [hv] at h; exact absurd h Nat.zero_ne_one
      · exact hc _
    | ⟨1, _⟩ =>
      unfold ScatterDims.siIdx
      rw [dif_pos (by rw [hv])]
      show List.idxOf (0 : Fin 1) d.scatterDimsToOperandDims = 0
      rw [hs]; rfl
  rw [resultIdx?_ix1, hw]
  unfold ScatterDims.start
  rw [dif_pos hm, hsi]
  simp

include hx in
theorem lands_boosted (a : Fin 256) (c : Fin 100000) :
    scatter_S100000_S256x1_S256_n_0_0_1.resultIdx? (ix1 a) (val_main_v26 (F := F) x3) = some (ix1 c) ↔
      (x3 (ix1 a)).toNat = c.val := by
  rw [lands_vector _ rfl rfl rfl, boost_word x3 hx]
  have h2 := hx (ix1 a)
  rw [BitVec.toInt_eq_toNat_of_lt (by omega)]
  omega

include hx in
open Classical in
/-- The second mask at position `c`: whether one of the boosted ids names it. -/
theorem boosted_at (c : Fin 100000) :
    val_main_v28 (F := F) x3 (ix1 c) = if ∃ a, (x3 (ix1 a)).toNat = c.val then 1#1 else 0#1 := by
  unfold val_main_v28
  by_cases h : ∃ a, (x3 (ix1 a)).toNat = c.val
  · obtain ⟨a, ha⟩ := h
    rw [if_pos ⟨a, ha⟩]
    exact scatter_set_hit _ _ _ _ _ _ (fun k _ => by rw [val_main_v27_apply, val_main_c_8_apply]) (ix1 a)
      ((lands_boosted x3 hx a c).2 ha)
  · rw [if_neg h, scatter_set_miss, val_main_v20_apply, val_main_c_5_apply]
    intro k hk
    rw [eq_ix1 k] at hk
    exact h ⟨_, (lands_boosted x3 hx _ c).1 hk⟩

end

/-! ## The result -/

open Classical in
/-- The reference's result at row `r`, position `c`. -/
theorem result_at (x1 : FVec F S64x100000 .f32) (x2 : IVec S64x512 32) (x3 : IVec S256 32)
    (h2 : ∀ k, (x2 k).toNat < 2 ^ 31) (h3 : ∀ k, (x3 k).toNat < 2 ^ 31) (r : Fin 64) (c : Fin 100000) :
    val_main_v33 (F := F) x1 x2 x3 (ix2 r c) = FloatOps.addf
      (if ∃ b, (x2 (ix2 r b)).toNat = c.val then x1 (ix2 r c) else FloatOps.ofBits .f32 0xFF800000#32)
      (if (∃ b, (x2 (ix2 r b)).toNat = c.val) ∧ ∃ a, (x3 (ix1 a)).toNat = c.val then FloatOps.ofBits .f32 0x40400000#32
        else FloatOps.ofBits .f32 0x00000000#32) := by
  have e : idx_main_v29 (idx_main_v30 (ix2 r c)) = ix1 c := funext fun q => by fin_cases q; rfl
  rw [val_main_v33_apply, val_main_v19_apply, val_main_v32_apply, val_main_v31_apply, val_main_v30_apply, val_main_v29_apply, e,
    allowed_at x2 h2, boosted_at x3 h3, val_main_call0_v0_apply, val_main_cst_apply, val_main_call1_v0_apply, val_main_cst_9_apply,
    val_main_call1_v1_apply, val_main_cst_10_apply]
  by_cases p : ∃ b, (x2 (ix2 r b)).toNat = c.val <;> by_cases q : ∃ a, (x3 (ix1 a)).toNat = c.val <;>
    simp only [p, q, if_true, if_false, and_self, and_true, true_and, and_false, false_and] <;> rfl

end Cert.Proof.Ref

end
-- ==== Proof.Value.lean ====
module

public import proofs.«01_k».proof.Defs
public import proofs.«01_k».proof.Proof.Gen.Pre_ids_nonneg
public import proofs.«01_k».proof.Proof.Gen.Kernel
public import proofs.«01_k».proof.Proof.Launch
public import proofs.«01_k».proof.Proof.Boost
public import proofs.«01_k».proof.Proof.Ref
public import Idealize.ShloMosaic.Lib.ReduceAll

@[expose] public section

/-! # The result is the reference's

Over the extended reals, where no id is negative: both are the score at an allowed position and minus infinity
elsewhere, with 3 added where a boosted id names the position. Minus infinity stays as it is when 3 is added, so it does not
matter that only the reference asks whether a boosted position is allowed. -/

noncomputable section

namespace Cert.Proof

open Idealize.ShloMosaic Idealize.ShloMosaic.ValueIdx
open Cert.KernelIdeal Cert.KernelIdeal.Gen

/-! ## The precondition -/

theorem sge_zero (x : BitVec 32) (h : IntOp.cmpi .sge x 0#32 = 1#1) : x.toNat < 2 ^ 31 := by
  have e : BitVec.ofBool ((0#32).sle x) = 1#1 := h
  rw [WordArith.ofBool_eq_one_iff, BitVec.sle_eq_decide, decide_eq_true_eq] at e
  simp only [BitVec.toInt_eq_toNat_cond, BitVec.toNat_ofNat, Nat.reducePow, Nat.reduceMod] at e
  omega

theorem ids_ok (x0 : IVec S64x2048 32) (x1 : FVec Ideal S64x100000 .f32) (x2 : IVec S64x512 32) (x3 : IVec S256 32)
    (h : Cert.Pre_ids_nonneg.fn (F := Ideal) x0 x1 x2 x3 = fun _ => 1#1) :
    (∀ k, (x2 k).toNat < 2 ^ 31) ∧ ∀ k, (x3 k).toNat < 2 ^ 31 := by
  have e := congrFun h (fun a => a.elim0)
  obtain ⟨e2, e3⟩ := IntOp.andi_eq_one.1 e
  haveI : Subsingleton Cert.Pre_ids_nonneg.S_.Idx := ⟨fun a b => funext fun q => q.elim0⟩
  exact ⟨fun k => sge_zero _ (Host.reduce_andi_all _ _ _ _ _ e2 k), fun k => sge_zero _ (Host.reduce_andi_all _ _ _ _ _ e3 k)⟩

/-! ## The two results -/

theorem ite_iff {α : Type} {p q : Prop} {i : Decidable p} {i' : Decidable q} (h : p ↔ q) (x y : α) : ite p x y = ite q x y := by
  by_cases e : q
  · rw [if_pos e, if_pos (h.2 e)]
  · rw [if_neg e, if_neg fun e' => e (h.1 e')]

open Classical in
theorem result_ideal (m : (ℓ : Loc nD τ sig) → Buf (Elt Ideal) ℓ) (d : Dev nD) (r : Fin 64) (c : Fin 100000) :
    result m d (ix2 r c) =
      if ∃ a : Fin 256, ((m (nextLoc d) : IVec S256 32) (ix1 a)).toNat = c.val then
        ((if ∃ b : Fin 512, ((m (allowedLoc d) : IVec S64x512 32) (ix2 r b)).toNat = c.val
          then (m (scoresLoc d) : FVec Ideal S64x100000 .f32) (ix2 r c) else ⊥ : EReal)) + three
      else if ∃ b : Fin 512, ((m (allowedLoc d) : IVec S64x512 32) (ix2 r b)).toNat = c.val
          then (m (scoresLoc d) : FVec Ideal S64x100000 .f32) (ix2 r c) else ⊥ := by
  have h1 : (∃ l, l < 256 ∧ (nextFor m d l).toNat = c.val) ↔
      ∃ a : Fin 256, ((m (nextLoc d) : IVec S256 32) (ix1 a)).toNat = c.val := by
    have at_ : ∀ a : Fin 256, nextFor m d a.val = (m (nextLoc d) : IVec S256 32) (ix1 a) := fun a => by
      unfold nextFor
      rw [dif_pos a.isLt]
      exact congrArg _ (funext fun q => by fin_cases q; rfl)
    constructor
    · rintro ⟨l, hl, e⟩; exact ⟨⟨l, hl⟩, by rw [← at_]; exact e⟩
    · rintro ⟨a, e⟩; exact ⟨a.val, a.isLt, by rw [at_]; exact e⟩
  have h2 : (∃ l, l < 512 ∧ (allowedIds m d r.val l).toNat = c.val) ↔
      ∃ b : Fin 512, ((m (allowedLoc d) : IVec S64x512 32) (ix2 r b)).toNat = c.val := by
    have at_ : ∀ b : Fin 512, allowedIds m d r.val b.val = (m (allowedLoc d) : IVec S64x512 32) (ix2 r b) := fun b => by
      unfold allowedIds
      rw [dif_pos ⟨r.isLt, b.isLt⟩]
      exact congrArg _ (funext fun q => by fin_cases q <;> rfl)
    constructor
    · rintro ⟨l, hl, e⟩; exact ⟨⟨l, hl⟩, by rw [← at_]; exact e⟩
    · rintro ⟨b, e⟩; exact ⟨b.val, b.isLt, by rw [at_]; exact e⟩
  have h3 : (ninf (F := Ideal) : EReal) = ⊥ := by
    show Ideal.ofBits .f32 0xFF800000#32 = ⊥
    simp [Ideal.ofBits, Ideal.ieee]
  unfold result
  rw [← h3]
  refine (raised_ideal _ c.val c.isLt _).trans ?_
  exact if_congr h1 (congrArg (· + three) (ite_iff h2 _ _)) (ite_iff h2 _ _)

theorem result_eq (m : (ℓ : Loc nD τ sig) → Buf (Elt Ideal) ℓ) (d : Dev nD)
    (x1 : FVec Ideal S64x100000 .f32) (x2 : IVec S64x512 32) (x3 : IVec S256 32)
    (e1 : x1 = m (scoresLoc d)) (e2 : x2 = m (allowedLoc d)) (e3 : x3 = m (nextLoc d))
    (h2 : ∀ k, (x2 k).toNat < 2 ^ 31) (h3 : ∀ k, (x3 k).toNat < 2 ^ 31) :
    Cert.ReferenceIdeal.Read.val_main_v33 (F := Ideal) x1 x2 x3 = result m d := by
  subst e1 e2 e3
  funext j
  obtain ⟨r, c, rfl⟩ : ∃ (r : Fin 64) (c : Fin 100000), j = ix2 r c := ⟨j 0, j 1, eq_ix2 j⟩
  rw [result_ideal, Ref.result_at _ _ _ h2 h3]
  have h4 : (FloatOps.ofBits (F := Ideal) .f32 0xFF800000#32 : EReal) = ⊥ := by
    show Ideal.ofBits .f32 0xFF800000#32 = ⊥
    simp [Ideal.ofBits, Ideal.ieee]
  have h5 : (FloatOps.ofBits (F := Ideal) .f32 0x00000000#32 : EReal) = 0 := zero_bits
  have h6 : (FloatOps.ofBits (F := Ideal) .f32 0x40400000#32 : EReal) = three := rfl
  rw [h4, h5, h6]
  show (_ : EReal) + _ = _
  by_cases p : ∃ b : Fin 512, ((m (allowedLoc d) : IVec S64x512 32) (ix2 r b)).toNat = c.val <;>
    by_cases q : ∃ a : Fin 256, ((m (nextLoc d) : IVec S256 32) (ix1 a)).toNat = c.val
  · rw [if_pos p, if_pos ⟨p, q⟩, if_pos q]
  · rw [if_pos p, if_neg fun h => q h.2, if_neg q]
    exact add_zero _
  · rw [if_neg p, if_neg fun h => p h.1, if_pos q, EReal.bot_add, EReal.bot_add]
  · rw [if_neg p, if_neg fun h => p h.1, if_neg q, EReal.bot_add]

/-! ## The claims -/

theorem frame_kernel : Cert.quiescent_Kernel := fun m ρ _ =>
  (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic : Cert.algebraic_KernelIdeal_ReferenceIdeal_pre_ids_nonneg := fun m g m' g' pre same => by
  refine ⟨fun c => result m c, (θ_run Cert.KernelIdeal.defs _ _).mono (fun _ h => h.1) (run_main (F := Ideal) m g),
    (θ_run Cert.ReferenceIdeal.defs _ _).mono (fun r h c => ⟨?_, (h c).2⟩) (Cert.ReferenceIdeal.Value.run (F := Ideal) m' g')⟩
  obtain ⟨_, s1, s2, s3⟩ := same c
  obtain ⟨h2, h3⟩ := ids_ok _ _ _ _ (pre c)
  refine (h c).1.trans ((Cert.ReferenceIdeal.Read.val_main_v33_eq _ _ _).trans ?_)
  exact result_eq m c _ _ _ s1 s2 s3 (fun k => by rw [s2]; exact h2 k) (fun k => by rw [s3]; exact h3 k)

end Cert.Proof

end
-- ==== Proof.lean ====
/- The proof of the claims: the launch and its value are in Proof/Launch.lean, the value over the extended reals in
   Proof/Boost.lean, the reference read at a position in Proof/Ref.lean, and the claims themselves in Proof/Value.lean. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_nonneg
public import proofs.«01_k».proof.Proof.Value

@[expose] public section

noncomputable section

namespace Cert.Proof

/-- Every claim: the kernel's two frames and the reference's, that nothing was rewritten, and that the results agree
where no id is negative. -/
theorem claim : Cert.Claim :=
  ⟨Cert.Kernel.Gen.facts, Cert.KernelIdeal.Gen.facts, Cert.ReferenceIdeal.Gen.facts, Cert.Pre_ids_nonneg.Gen.facts,
    frame_kernel, frame_kernelIdeal, fun m g _ => frame_kernelIdeal m g trivial, frame_reference,
    fun m g _ => frame_reference m g trivial, trivial, algebraic⟩

end Cert.Proof

end
